-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S5 : Shape := ⟨1, ![5]⟩
abbrev S_ : Shape := ⟨0, ![]⟩
abbrev S1 : Shape := ⟨1, ![1]⟩
abbrev S512x1024 : Shape := ⟨2, ![512, 1024]⟩
abbrev S688x1024 : Shape := ⟨2, ![688, 1024]⟩
abbrev S672x1024 : Shape := ⟨2, ![672, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S8192x1024, .bf16⟩
  | .local _ .vmem, ⟨1, _⟩ => ⟨S8192x1024, .bf16⟩
  | .local _ .vmem, ⟨2, _⟩ => ⟨S8192x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_21 : BitVec 32 := 16#32
  let v35 : BitVec 32 := Scalar.muli v11 c16_i32_21
  let v36 : BitVec 32 := Scalar.addi c0_i32 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v37 : BitVec 32 := Scalar.muli v5 c4_i32_22
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v39 : BitVec 32 := Scalar.muli v8 c1_i32_23
  let v40 : BitVec 32 := Scalar.addi v38 v39
  v40.toNat
def k0_dev2 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v41 : BitVec 32 := Scalar.muli v2 c16_i32_25
  let v42 : BitVec 32 := Scalar.addi c0_i32_26 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_27 : BitVec 32 := 4#32
  let v43 : BitVec 32 := Scalar.muli v14 c4_i32_27
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v45 : BitVec 32 := Scalar.muli v8 c1_i32_28
  let v46 : BitVec 32 := Scalar.addi v44 v45
  v46.toNat
def k0_dev3 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v47 : BitVec 32 := Scalar.muli v2 c16_i32_30
  let v48 : BitVec 32 := Scalar.addi c0_i32_31 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v49 : BitVec 32 := Scalar.muli v5 c4_i32_32
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_33 : BitVec 32 := 1#32
  let v51 : BitVec 32 := Scalar.muli v17 c1_i32_33
  let v52 : BitVec 32 := Scalar.addi v50 v51
  v52.toNat
def k0_off1 (d0 : Dev nD) (c0_i32_34 : BitVec 32) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c2048_i32 : BitVec 32 := 2048#32
  let v20 : BitVec 32 := Scalar.muli v19 c2048_i32
  let v53 : BitVec 32 := Scalar.addi v20 c0_i32_34
  let c0_i32_41 : BitVec 32 := 0#32
  ![v53.toNat, 0]
def k0_dev4 (d0 : Dev nD) : Nat :=
  let c0_i32_38 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_37 : BitVec 32 := 16#32
  let v54 : BitVec 32 := Scalar.muli v11 c16_i32_37
  let v55 : BitVec 32 := Scalar.addi c0_i32_38 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v56 : BitVec 32 := Scalar.muli v5 c4_i32_39
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v58 : BitVec 32 := Scalar.muli v8 c1_i32_40
  let v59 : BitVec 32 := Scalar.addi v57 v58
  v59.toNat
def k0_dev5 (d0 : Dev nD) : Nat :=
  let c0_i32_46 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_45 : BitVec 32 := 16#32
  let v67 : BitVec 32 := Scalar.muli v11 c16_i32_45
  let v68 : BitVec 32 := Scalar.addi c0_i32_46 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v69 : BitVec 32 := Scalar.muli v5 c4_i32_47
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v71 : BitVec 32 := Scalar.muli v8 c1_i32_48
  let v72 : BitVec 32 := Scalar.addi v70 v71
  v72.toNat
def k0_dev6 (d0 : Dev nD) : Nat :=
  let c0_i32_54 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_53 : BitVec 32 := 16#32
  let v80 : BitVec 32 := Scalar.muli v11 c16_i32_53
  let v81 : BitVec 32 := Scalar.addi c0_i32_54 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v82 : BitVec 32 := Scalar.muli v5 c4_i32_55
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v84 : BitVec 32 := Scalar.muli v8 c1_i32_56
  let v85 : BitVec 32 := Scalar.addi v83 v84
  v85.toNat
def k0_dev7 (d0 : Dev nD) : Nat :=
  let c0_i32_62 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_61 : BitVec 32 := 16#32
  let v93 : BitVec 32 := Scalar.muli v11 c16_i32_61
  let v94 : BitVec 32 := Scalar.addi c0_i32_62 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v95 : BitVec 32 := Scalar.muli v5 c4_i32_63
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v97 : BitVec 32 := Scalar.muli v8 c1_i32_64
  let v98 : BitVec 32 := Scalar.addi v96 v97
  v98.toNat
def k0_off2 (d0 : Dev nD) : Fin 2 → Nat :=
  let c2_i32_17 : BitVec 32 := 2#32
  let c1_i32_16 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v29 : BitVec 32 := Scalar.subi c1_i32_16 v9
  let v30 : BitVec 32 := Scalar.muli c2_i32_17 v29
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v31 : BitVec 32 := Scalar.subi c1_i32_18 v10
  let v32 : BitVec 32 := Scalar.addi v30 v31
  let c2048_i32_19 : BitVec 32 := 2048#32
  let v33 : BitVec 32 := Scalar.muli v32 c2048_i32_19
  let c688_i32 : BitVec 32 := 688#32
  let v105 : BitVec 32 := Scalar.addi v33 c688_i32
  let c672_i32 : BitVec 32 := 672#32
  let v106 : BitVec 32 := Scalar.addi v105 c672_i32
  let c0_i32_73 : BitVec 32 := 0#32
  ![v106.toNat, 0]
def k0_dev8 (d0 : Dev nD) : Nat :=
  let c0_i32_70 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_69 : BitVec 32 := 16#32
  let v107 : BitVec 32 := Scalar.muli v11 c16_i32_69
  let v108 : BitVec 32 := Scalar.addi c0_i32_70 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v109 : BitVec 32 := Scalar.muli v5 c4_i32_71
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v111 : BitVec 32 := Scalar.muli v8 c1_i32_72
  let v112 : BitVec 32 := Scalar.addi v110 v111
  v112.toNat
def k0_dev9 (d0 : Dev nD) : Nat :=
  let c0_i32_95 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_94 : BitVec 32 := 16#32
  let v138 : BitVec 32 := Scalar.muli v2 c16_i32_94
  let v139 : BitVec 32 := Scalar.addi c0_i32_95 v138
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_96 : BitVec 32 := 4#32
  let v140 : BitVec 32 := Scalar.muli v14 c4_i32_96
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v142 : BitVec 32 := Scalar.muli v8 c1_i32_97
  let v143 : BitVec 32 := Scalar.addi v141 v142
  v143.toNat
def k0_dev10 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v150 : BitVec 32 := Scalar.muli v2 c16_i32_102
  let v151 : BitVec 32 := Scalar.addi c0_i32_103 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v152 : BitVec 32 := Scalar.muli v5 c4_i32_104
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_105 : BitVec 32 := 1#32
  let v154 : BitVec 32 := Scalar.muli v17 c1_i32_105
  let v155 : BitVec 32 := Scalar.addi v153 v154
  v155.toNat
def k0_off3 (d0 : Dev nD) (c0_i32_91 : BitVec 32) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c2048_i32 : BitVec 32 := 2048#32
  let v20 : BitVec 32 := Scalar.muli v19 c2048_i32
  let v137 : BitVec 32 := Scalar.addi v20 c0_i32_91
  let v162 : Index := Scalar.indexCast v137
  let c0 : Index := 0#32
  ![v162.toNat, 0]
def k0_dev11 (d0 : Dev nD) : Nat :=
  let c0_i32_122 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_121 : BitVec 32 := 16#32
  let v181 : BitVec 32 := Scalar.muli v2 c16_i32_121
  let v182 : BitVec 32 := Scalar.addi c0_i32_122 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_123 : BitVec 32 := 4#32
  let v183 : BitVec 32 := Scalar.muli v14 c4_i32_123
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v185 : BitVec 32 := Scalar.muli v8 c1_i32_124
  let v186 : BitVec 32 := Scalar.addi v184 v185
  v186.toNat
def k0_dev12 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_129 : BitVec 32 := 16#32
  let v193 : BitVec 32 := Scalar.muli v2 c16_i32_129
  let v194 : BitVec 32 := Scalar.addi c0_i32_130 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v195 : BitVec 32 := Scalar.muli v5 c4_i32_131
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_132 : BitVec 32 := 1#32
  let v197 : BitVec 32 := Scalar.muli v17 c1_i32_132
  let v198 : BitVec 32 := Scalar.addi v196 v197
  v198.toNat
def k0_off4 (d0 : Dev nD) (c0_i32_75 : BitVec 32) : Fin 2 → Nat :=
  let c2_i32_11 : BitVec 32 := 2#32
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v21 : BitVec 32 := Scalar.subi c1_i32_10 v9
  let v22 : BitVec 32 := Scalar.muli c2_i32_11 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v23 : BitVec 32 := Scalar.addi v22 v10
  let c2048_i32_12 : BitVec 32 := 2048#32
  let v24 : BitVec 32 := Scalar.muli v23 c2048_i32_12
  let v119 : BitVec 32 := Scalar.addi v24 c0_i32_75
  let c0_i32_144 : BitVec 32 := 0#32
  ![v119.toNat, 0]
def k0_off5 (d0 : Dev nD) : Fin 2 → Nat :=
  let c2_i32_11 : BitVec 32 := 2#32
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v21 : BitVec 32 := Scalar.subi c1_i32_10 v9
  let v22 : BitVec 32 := Scalar.muli c2_i32_11 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v23 : BitVec 32 := Scalar.addi v22 v10
  let c2048_i32_12 : BitVec 32 := 2048#32
  let v24 : BitVec 32 := Scalar.muli v23 c2048_i32_12
  let v223 : Index := Scalar.indexCast v24
  let c0_146 : Index := 0#32
  ![v223.toNat, 0]
def k0_off6 (d0 : Dev nD) (c0_i32_79 : BitVec 32) : Fin 2 → Nat :=
  let c2_i32_13 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v25 : BitVec 32 := Scalar.muli c2_i32_13 v9
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v26 : BitVec 32 := Scalar.subi c1_i32_14 v10
  let v27 : BitVec 32 := Scalar.addi v25 v26
  let c2048_i32_15 : BitVec 32 := 2048#32
  let v28 : BitVec 32 := Scalar.muli v27 c2048_i32_15
  let v123 : BitVec 32 := Scalar.addi v28 c0_i32_79
  let c0_i32_155 : BitVec 32 := 0#32
  ![v123.toNat, 0]
def k0_off7 (d0 : Dev nD) : Fin 2 → Nat :=
  let c2_i32_13 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v25 : BitVec 32 := Scalar.muli c2_i32_13 v9
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v26 : BitVec 32 := Scalar.subi c1_i32_14 v10
  let v27 : BitVec 32 := Scalar.addi v25 v26
  let c2048_i32_15 : BitVec 32 := 2048#32
  let v28 : BitVec 32 := Scalar.muli v27 c2048_i32_15
  let v241 : Index := Scalar.indexCast v28
  let c0_157 : Index := 0#32
  ![v241.toNat, 0]
def k0_dev13 (d0 : Dev nD) : Nat :=
  let c0_i32_172 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_171 : BitVec 32 := 16#32
  let v260 : BitVec 32 := Scalar.muli v2 c16_i32_171
  let v261 : BitVec 32 := Scalar.addi c0_i32_172 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_173 : BitVec 32 := 4#32
  let v262 : BitVec 32 := Scalar.muli v14 c4_i32_173
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v264 : BitVec 32 := Scalar.muli v8 c1_i32_174
  let v265 : BitVec 32 := Scalar.addi v263 v264
  v265.toNat
def k0_dev14 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v272 : BitVec 32 := Scalar.muli v2 c16_i32_179
  let v273 : BitVec 32 := Scalar.addi c0_i32_180 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v274 : BitVec 32 := Scalar.muli v5 c4_i32_181
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_182 : BitVec 32 := 1#32
  let v276 : BitVec 32 := Scalar.muli v17 c1_i32_182
  let v277 : BitVec 32 := Scalar.addi v275 v276
  v277.toNat
def k0_off8 (d0 : Dev nD) (c512_i32_196 : BitVec 32) : Fin 2 → Nat :=
  let c2_i32_11 : BitVec 32 := 2#32
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v21 : BitVec 32 := Scalar.subi c1_i32_10 v9
  let v22 : BitVec 32 := Scalar.muli c2_i32_11 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v23 : BitVec 32 := Scalar.addi v22 v10
  let c2048_i32_12 : BitVec 32 := 2048#32
  let v24 : BitVec 32 := Scalar.muli v23 c2048_i32_12
  let v302 : BitVec 32 := Scalar.addi v24 c512_i32_196
  let v303 : Index := Scalar.indexCast v302
  let c0_197 : Index := 0#32
  ![v303.toNat, 0]
def k0_off9 (d0 : Dev nD) : Fin 2 → Nat :=
  let c2_i32_11 : BitVec 32 := 2#32
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v21 : BitVec 32 := Scalar.subi c1_i32_10 v9
  let v22 : BitVec 32 := Scalar.muli c2_i32_11 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v23 : BitVec 32 := Scalar.addi v22 v10
  let c2048_i32_12 : BitVec 32 := 2048#32
  let v24 : BitVec 32 := Scalar.muli v23 c2048_i32_12
  let c0_i32_206 : BitVec 32 := 0#32
  ![v24.toNat, 0]
def k0_dev15 (d0 : Dev nD) : Nat :=
  let c0_i32_203 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_202 : BitVec 32 := 16#32
  let v311 : BitVec 32 := Scalar.muli v2 c16_i32_202
  let v312 : BitVec 32 := Scalar.addi c0_i32_203 v311
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_204 : BitVec 32 := 4#32
  let v313 : BitVec 32 := Scalar.muli v5 c4_i32_204
  let v314 : BitVec 32 := Scalar.addi v312 v313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_205 : BitVec 32 := 1#32
  let v315 : BitVec 32 := Scalar.muli v17 c1_i32_205
  let v316 : BitVec 32 := Scalar.addi v314 v315
  v316.toNat
def k0_off10 (d0 : Dev nD) (c512_i32_216 : BitVec 32) : Fin 2 → Nat :=
  let c2_i32_13 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v25 : BitVec 32 := Scalar.muli c2_i32_13 v9
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v26 : BitVec 32 := Scalar.subi c1_i32_14 v10
  let v27 : BitVec 32 := Scalar.addi v25 v26
  let c2048_i32_15 : BitVec 32 := 2048#32
  let v28 : BitVec 32 := Scalar.muli v27 c2048_i32_15
  let v333 : BitVec 32 := Scalar.addi v28 c512_i32_216
  let v334 : Index := Scalar.indexCast v333
  let c0_217 : Index := 0#32
  ![v334.toNat, 0]
def k0_dev16 (d0 : Dev nD) : Nat :=
  let c0_i32_232 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_231 : BitVec 32 := 16#32
  let v353 : BitVec 32 := Scalar.muli v2 c16_i32_231
  let v354 : BitVec 32 := Scalar.addi c0_i32_232 v353
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_233 : BitVec 32 := 4#32
  let v355 : BitVec 32 := Scalar.muli v14 c4_i32_233
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v357 : BitVec 32 := Scalar.muli v8 c1_i32_234
  let v358 : BitVec 32 := Scalar.addi v356 v357
  v358.toNat
def k0_dev17 (d0 : Dev nD) : Nat :=
  let c0_i32_240 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_239 : BitVec 32 := 16#32
  let v365 : BitVec 32 := Scalar.muli v2 c16_i32_239
  let v366 : BitVec 32 := Scalar.addi c0_i32_240 v365
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_241 : BitVec 32 := 4#32
  let v367 : BitVec 32 := Scalar.muli v5 c4_i32_241
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_242 : BitVec 32 := 1#32
  let v369 : BitVec 32 := Scalar.muli v17 c1_i32_242
  let v370 : BitVec 32 := Scalar.addi v368 v369
  v370.toNat
def k0_off11 (d0 : Dev nD) : Fin 2 → Nat :=
  let c2_i32_13 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v25 : BitVec 32 := Scalar.muli c2_i32_13 v9
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v26 : BitVec 32 := Scalar.subi c1_i32_14 v10
  let v27 : BitVec 32 := Scalar.addi v25 v26
  let c2048_i32_15 : BitVec 32 := 2048#32
  let v28 : BitVec 32 := Scalar.muli v27 c2048_i32_15
  let c688_i32_260 : BitVec 32 := 688#32
  let v404 : BitVec 32 := Scalar.addi v28 c688_i32_260
  let c0_i32_267 : BitVec 32 := 0#32
  ![v404.toNat, 0]
def k0_dev18 (d0 : Dev nD) : Nat :=
  let c0_i32_264 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_263 : BitVec 32 := 16#32
  let v405 : BitVec 32 := Scalar.muli v2 c16_i32_263
  let v406 : BitVec 32 := Scalar.addi c0_i32_264 v405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_265 : BitVec 32 := 4#32
  let v407 : BitVec 32 := Scalar.muli v14 c4_i32_265
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v409 : BitVec 32 := Scalar.muli v8 c1_i32_266
  let v410 : BitVec 32 := Scalar.addi v408 v409
  v410.toNat
def k0_off12 (d0 : Dev nD) : Fin 2 → Nat :=
  let c2_i32_17 : BitVec 32 := 2#32
  let c1_i32_16 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v29 : BitVec 32 := Scalar.subi c1_i32_16 v9
  let v30 : BitVec 32 := Scalar.muli c2_i32_17 v29
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v31 : BitVec 32 := Scalar.subi c1_i32_18 v10
  let v32 : BitVec 32 := Scalar.addi v30 v31
  let c2048_i32_19 : BitVec 32 := 2048#32
  let v33 : BitVec 32 := Scalar.muli v32 c2048_i32_19
  let c688_i32_289 : BitVec 32 := 688#32
  let v446 : BitVec 32 := Scalar.addi v33 c688_i32_289
  let c672_i32_290 : BitVec 32 := 672#32
  let v447 : BitVec 32 := Scalar.addi v446 c672_i32_290
  let v448 : Index := Scalar.indexCast v447
  let c0_291 : Index := 0#32
  ![v448.toNat, 0]
def k0_off13 (d0 : Dev nD) : Fin 2 → Nat :=
  let c2_i32_17 : BitVec 32 := 2#32
  let c1_i32_16 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v29 : BitVec 32 := Scalar.subi c1_i32_16 v9
  let v30 : BitVec 32 := Scalar.muli c2_i32_17 v29
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v31 : BitVec 32 := Scalar.subi c1_i32_18 v10
  let v32 : BitVec 32 := Scalar.addi v30 v31
  let c2048_i32_19 : BitVec 32 := 2048#32
  let v33 : BitVec 32 := Scalar.muli v32 c2048_i32_19
  let c688_i32_318 : BitVec 32 := 688#32
  let v494 : BitVec 32 := Scalar.addi v33 c688_i32_318
  let c0_i32_325 : BitVec 32 := 0#32
  ![v494.toNat, 0]
def k0_off14 (d0 : Dev nD) : Fin 2 → Nat :=
  let c2_i32_17 : BitVec 32 := 2#32
  let c1_i32_16 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v29 : BitVec 32 := Scalar.subi c1_i32_16 v9
  let v30 : BitVec 32 := Scalar.muli c2_i32_17 v29
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v31 : BitVec 32 := Scalar.subi c1_i32_18 v10
  let v32 : BitVec 32 := Scalar.addi v30 v31
  let c2048_i32_19 : BitVec 32 := 2048#32
  let v33 : BitVec 32 := Scalar.muli v32 c2048_i32_19
  let c688_i32_327 : BitVec 32 := 688#32
  let v505 : BitVec 32 := Scalar.addi v33 c688_i32_327
  let v506 : Index := Scalar.indexCast v505
  let c0_328 : Index := 0#32
  ![v506.toNat, 0]
def k0_off15 (d0 : Dev nD) : Fin 2 → Nat :=
  let c2_i32_17 : BitVec 32 := 2#32
  let c1_i32_16 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v29 : BitVec 32 := Scalar.subi c1_i32_16 v9
  let v30 : BitVec 32 := Scalar.muli c2_i32_17 v29
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v31 : BitVec 32 := Scalar.subi c1_i32_18 v10
  let v32 : BitVec 32 := Scalar.addi v30 v31
  let c2048_i32_19 : BitVec 32 := 2048#32
  let v33 : BitVec 32 := Scalar.muli v32 c2048_i32_19
  let c0_i32_337 : BitVec 32 := 0#32
  ![v33.toNat, 0]
def k0_off16 (d0 : Dev nD) : Fin 2 → Nat :=
  let c2_i32_17 : BitVec 32 := 2#32
  let c1_i32_16 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v29 : BitVec 32 := Scalar.subi c1_i32_16 v9
  let v30 : BitVec 32 := Scalar.muli c2_i32_17 v29
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v31 : BitVec 32 := Scalar.subi c1_i32_18 v10
  let v32 : BitVec 32 := Scalar.addi v30 v31
  let c2048_i32_19 : BitVec 32 := 2048#32
  let v33 : BitVec 32 := Scalar.muli v32 c2048_i32_19
  let v524 : Index := Scalar.indexCast v33
  let c0_339 : Index := 0#32
  ![v524.toNat, 0]
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x8192x1024, .bf16⟩
  | .hbm, ⟨2, _⟩ => ⟨S2x8192x1024, .f32⟩
  | .hbm, ⟨3, _⟩ => ⟨S_, .f32⟩
  | .hbm, ⟨4, _⟩ => ⟨S8192x1024, .f32⟩
  | .hbm, ⟨5, _⟩ => ⟨S8192x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Rows.lean ====
/-
The mesh of 32 devices (2 × 4 × 4), the three partners of a device, the fifteen transfers each device makes
and the rows of the 8192-row block each of them carries.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.CubeSum

open Cert.KernelIdeal Cert.KernelIdeal.Gen
open Idealize.ShloMosaic
open Idealize.ShloMosaic.TcCoe

/-! ## Partners -/

/-- The parity of a device's `y` coordinate and of its `z` coordinate. -/
def sy (c : Dev nD) : ℕ := c.val / 4 % 2
def sz (c : Dev nD) : ℕ := c.val % 2

theorem sy_lt (c : Dev nD) : sy c < 2 := Nat.mod_lt _ (by decide)
theorem sz_lt (c : Dev nD) : sz c < 2 := Nat.mod_lt _ (by decide)

set_option backward.proofsInPublic true in
/-- The partner of a device along `x` (lane 0), along `y` (lane 1) or along `z` (lane 2). -/
def nb (l : Fin 3) (c : Dev nD) : Dev nD := match l with
  | 0 => ⟨(c.val + 16) % 32, Nat.mod_lt _ (by decide)⟩
  | 1 => ⟨(c.val + 4 - 8 * (c.val / 4 % 2)) % 32, Nat.mod_lt _ (by decide)⟩
  | 2 => ⟨(c.val + 1 - 2 * (c.val % 2)) % 32, Nat.mod_lt _ (by decide)⟩

/-- The partner's partner along the same lane is the device itself. -/
theorem nb_nb : ∀ (l : Fin 3) (c : Dev nD), nb l (nb l c) = c := by decide +kernel
theorem nb_inj {l : Fin 3} {a b : Dev nD} (h : nb l a = nb l b) : a = b := by rw [← nb_nb l a, h, nb_nb]
/-- Partners along different lanes differ. -/
theorem nb_lane : ∀ (l l' : Fin 3) (c : Dev nD), nb l c = nb l' c → l = l' := by decide +kernel

/-- The partner relation along a lane as a permutation of the devices. -/
def swap (l : Fin 3) : Dev nD ≃ Dev nD := ⟨nb l, nb l, nb_nb l, nb_nb l⟩

theorem sy_nb : ∀ (l : Fin 3) (c : Dev nD), sy (nb l c) = if l = 1 then 1 - sy c else sy c := by decide +kernel
theorem sz_nb : ∀ (l : Fin 3) (c : Dev nD), sz (nb l c) = if l = 2 then 1 - sz c else sz c := by decide +kernel

/-! ## Transfers

Transfer `t` (of fifteen) is number `t % 5` of lane `t / 5`. -/

abbrev Tr : Type := Fin 15

def lane (t : Tr) : Fin 3 := ⟨t.val / 5, by omega⟩

/-- The first row of a device's own quarter, and of the quarter whose owner has the other `y` parity, the other
    `z` parity, both. -/
def oMe (c : Dev nD) : ℕ := 4096 * sy c + 2048 * sz c
def oY (c : Dev nD) : ℕ := 4096 * (1 - sy c) + 2048 * sz c
def oZ (c : Dev nD) : ℕ := 4096 * sy c + 2048 * (1 - sz c)
def oD (c : Dev nD) : ℕ := 4096 * (1 - sy c) + 2048 * (1 - sz c)

/-- The first row that transfer `t` of device `c` carries. -/
def lo (c : Dev nD) (t : Tr) : ℕ :=
  if t.val = 4 then oD c + 1360 else if t.val = 9 then oZ c + 688 else if t.val = 14 then oY c else oMe c + 512 * (t.val % 5)
/-- How many rows transfer `t` carries. -/
def len (t : Tr) : ℕ := if t.val = 9 then 672 else if t.val % 5 = 4 then 688 else 512
/-- The first row at which transfer `t` lands on device `c`: the partner sends it from the same row. -/
def rlo (c : Dev nD) (t : Tr) : ℕ := lo (nb (lane t) c) t

theorem rlo_nb (c : Dev nD) (t : Tr) : rlo (nb (lane t) c) t = lo c t := by unfold rlo; rw [nb_nb]

theorem len_pos (t : Tr) : 0 < len t := by unfold len; split <;> [decide; (split <;> decide)]

/-- Where the fifteen transfers land, by the quarters of the receiving device. -/
theorem rlo_eq : ∀ (c : Dev nD) (t : Tr), rlo c t =
    if t.val = 4 then oD c + 1360 else if t.val = 9 then oD c + 688 else if t.val = 14 then oD c
    else if t.val < 5 then oMe c + 512 * (t.val % 5) else if t.val < 10 then oY c + 512 * (t.val % 5) else oZ c + 512 * (t.val % 5) := by
  decide +kernel

/-! ## Bands of rows -/

/-- The entries of rows `a`, …, `a + n - 1`. -/
def band (a n : ℕ) : Finset S8192x1024.Idx := Finset.univ.filter fun i => a ≤ (i 0).val ∧ (i 0).val < a + n

theorem mem_band {a n : ℕ} {i : S8192x1024.Idx} : i ∈ band a n ↔ a ≤ (i 0).val ∧ (i 0).val < a + n := by
  simp [band]

theorem row_lt (i : S8192x1024.Idx) : (i 0).val < 8192 := (i 0).isLt

/-- Two bands one after the other make one band. -/
theorem band_append (a n m : ℕ) : band a n ∪ band (a + n) m = band a (n + m) := by
  ext i; simp only [Finset.mem_union, mem_band]; omega
theorem band_disjoint {a n b m : ℕ} (h : a + n ≤ b ∨ b + m ≤ a) : Disjoint (band a n) (band b m) := by
  rw [Finset.disjoint_left]; intro i h1 h2; rw [mem_band] at h1 h2; omega

/-- The rows at which transfer `t` lands on device `c`. -/
abbrev rband (c : Dev nD) (t : Tr) : Finset S8192x1024.Idx := band (rlo c t) (len t)

/-- Every row of the block is landed on by exactly one of the fifteen transfers: no two of them meet … -/
theorem rband_disjoint (c : Dev nD) : ∀ t ∈ (Finset.univ : Finset Tr), ∀ t' ∈ (Finset.univ : Finset Tr), t ≠ t' → Disjoint (rband c t) (rband c t') := by
  intro t _ t' _ hne
  refine band_disjoint ?_
  revert c t t'
  decide +kernel
/-- … and together they cover it. -/
theorem rband_cover (c : Dev nD) : (Finset.univ : Finset Tr).biUnion (rband c) = (Finset.univ : Finset S8192x1024.Idx) := by
  ext i
  simp only [Finset.mem_biUnion, Finset.mem_univ, true_and, iff_true, mem_band]
  have hi := row_lt i
  have h : ∃ t : Tr, rlo c t ≤ (i 0).val ∧ (i 0).val < rlo c t + len t := by
    have h1 := sy_lt c; have h2 := sz_lt c
    by_contra hn
    have hn' : ∀ t : Tr, rlo c t ≤ (i 0).val → rlo c t + len t ≤ (i 0).val := fun t h => by
      by_contra h'; exact hn ⟨t, h, by omega⟩
    simp only [rlo_eq] at hn'
    generalize (i 0).val = r at hi hn'
    simp only [oMe, oY, oZ, oD] at hn'
    generalize sy c = a at h1 hn'
    generalize sz c = b at h2 hn'
    clear hn
    have e0 := hn' 0
    have e1 := hn' 1
    have e2 := hn' 2
    have e3 := hn' 3
    have e4 := hn' 4
    have e5 := hn' 5
    have e6 := hn' 6
    have e7 := hn' 7
    have e8 := hn' 8
    have e9 := hn' 9
    have e10 := hn' 10
    have e11 := hn' 11
    have e12 := hn' 12
    have e13 := hn' 13
    have e14 := hn' 14
    clear hn'
    simp [len] at e0 e1 e2 e3 e4 e5 e6 e7 e8 e9 e10 e11 e12 e13 e14
    omega
  exact h

end Cert.CubeSum

end
-- ==== Proof.Contents.lean ====
/-
What the buffers hold: the block of `x` each device starts from, the block it ends up with in its scratch
buffer, and the sum it stores.
-/
module

public import proofs.«01_k».proof.Proof.Rows

@[expose] public section

noncomputable section

namespace Cert.CubeSum

open Cert.KernelIdeal Cert.KernelIdeal.Gen
open Idealize.ShloMosaic
open Idealize.ShloMosaic.TcCoe

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The three buffers of a device -/

abbrev xM : Memref sig .tc .vmem S8192x1024 .bf16 := Memref.whole cc0_stg0_0
abbrev oM : Memref sig .tc .vmem S8192x1024 .bf16 := Memref.whole cc0_stg1_0
abbrev bM : Memref sig .tc .vmem S8192x1024 .bf16 := Memref.whole cc0_scratch0

/-- The block of `n` full rows from row `off 0` on. -/
abbrev rows (off : Fin 2 → ℕ) (n : ℕ) (inb : ∀ a, off a + (⟨2, ![n, 1024]⟩ : Shape).size a ≤ S8192x1024.size a) : Rect S8192x1024 :=
  Rect.unit (s := S8192x1024) off (⟨2, ![n, 1024]⟩ : Shape).size inb

omit [FloatOps F] in
/-- The elements of that block are a band. -/
theorem rows_set {off : Fin 2 → ℕ} {n a : ℕ} {inb} (h : off = ![a, 0]) : (rows off n inb).set = band a n := by
  subst h
  ext i
  rw [Rect.mem_set_unit, mem_band, Fin.forall_fin_two]
  have h1 : (i 1).val < 1024 := (i 1).isLt
  simp
  omega

omit [FloatOps F] in
/-- Rows read from one buffer and written over the same rows of another: the second now holds, on those rows, what
    the first holds. -/
theorem copied {r : Rect S8192x1024} (hr : ∀ a, r.stride a = 1) (fd : (cc0_scratch0 : Ref sig .tc).ty.Contents (Elt F)) (f : (cc0_stg0_0 : Ref sig .tc).ty.Contents (Elt F)) :
    ∀ i ∈ r.set, (bM.slice r hr).view.write (Elt F) fd ((xM.slice r hr).view.read (Elt F) f) Finset.univ i = f i := by
  intro i hi
  rw [← Rect.map_emb_univ] at hi
  obtain ⟨x, -, rfl⟩ := Finset.mem_map.mp hi
  exact (bM.slice r hr).view.write_emb_of_mem _ _ (Finset.mem_univ x)

omit [FloatOps F] in
/-- The same between the scratch buffers of two devices. -/
theorem copied' {r : Rect S8192x1024} (hr : ∀ a, r.stride a = 1) (fd f : (cc0_scratch0 : Ref sig .tc).ty.Contents (Elt F)) :
    ∀ i ∈ r.set, (bM.slice r hr).view.write (Elt F) fd ((bM.slice r hr).view.read (Elt F) f) Finset.univ i = f i := by
  intro i hi
  rw [← Rect.map_emb_univ] at hi
  obtain ⟨x, -, rfl⟩ := Finset.mem_map.mp hi
  exact (bM.slice r hr).view.write_emb_of_mem _ _ (Finset.mem_univ x)

/-- Rows of the sum of two buffers stored over the same rows of a third. -/
theorem stored (r : Rect S8192x1024) (fo : (cc0_stg1_0 : Ref sig .tc).ty.Contents (Elt F))
    (fx : (cc0_stg0_0 : Ref sig .tc).ty.Contents (Elt F)) (fb : (cc0_scratch0 : Ref sig .tc).ty.Contents (Elt F)) :
    ∀ i ∈ r.set, (oM.access r).write (Elt F) fo (addf (F := F) (φ := .bf16) (s := r.shape) ((xM.access r).read (Elt F) fx) ((bM.access r).read (Elt F) fb)) Finset.univ i
      = (addf (F := F) (φ := .bf16) (s := S8192x1024) fx fb : (cc0_stg1_0 : Ref sig .tc).ty.Contents (Elt F)) i := by
  intro i hi
  rw [← Rect.map_emb_univ] at hi
  obtain ⟨x, -, rfl⟩ := Finset.mem_map.mp hi
  exact (oM.access r).write_emb_of_mem _ _ (Finset.mem_univ x)

/-! ## The contents -/

/-- The block of `x` that device `c` starts from, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The device whose block of `x` supplies sixteen-row group `g` of device `c`'s scratch buffer. It lies on the other
    side of the `x` axis in every case. -/
def org (c : Dev nD) (g : ℕ) : Dev nD :=
  if g / 256 = sy c then
    (if g / 128 % 2 = sz c then nb 0 c else nb 0 (nb 2 c))
  else if g / 128 % 2 = sz c then nb 0 (nb 1 c)
  else if 85 ≤ g % 128 then nb 0 c else nb 0 (nb 1 (nb 2 c))

/-- The device whose block supplies a group is the partner along `x` of a device with the same `x` coordinate, which
    is all the values depend on. -/
theorem org_side : ∀ (c : Dev nD) (g : Fin 512), (org c g.val).val / 16 = 1 - c.val / 16 := by decide +kernel

theorem org_x_fin : ∀ (c : Dev nD) (t : Tr), lane t = 0 → ∀ k : Fin 43, 16 * k.val < len t → org (nb 0 c) (lo c t / 16 + k.val) = c := by decide +kernel
theorem org_yz_fin : ∀ (c : Dev nD) (t : Tr), lane t ≠ 0 → ∀ k : Fin 43, 16 * k.val < len t → org (nb (lane t) c) (lo c t / 16 + k.val) = org c (lo c t / 16 + k.val) := by decide +kernel
theorem lo_dvd : ∀ (c : Dev nD) (t : Tr), lo c t % 16 = 0 := by decide +kernel
theorem len_le : ∀ t : Tr, len t ≤ 688 := by decide +kernel

/-- A transfer along `x` carries the sender's own block. -/
theorem org_x {c : Dev nD} {t : Tr} (ht : lane t = 0) {r : ℕ} (h1 : lo c t ≤ r) (h2 : r < lo c t + len t) : org (nb 0 c) (r / 16) = c := by
  have h3 := lo_dvd c t; have h4 := len_le t
  have := org_x_fin c t ht ⟨r / 16 - lo c t / 16, by omega⟩ (by show 16 * (r / 16 - lo c t / 16) < _; omega)
  rwa [show lo c t / 16 + (r / 16 - lo c t / 16) = r / 16 by omega] at this
/-- A transfer along `y` or `z` carries the rows on, whosever they are. -/
theorem org_yz {c : Dev nD} {t : Tr} (ht : lane t ≠ 0) {r : ℕ} (h1 : lo c t ≤ r) (h2 : r < lo c t + len t) :
    org (nb (lane t) c) (r / 16) = org c (r / 16) := by
  have h3 := lo_dvd c t; have h4 := len_le t
  have := org_yz_fin c t ht ⟨r / 16 - lo c t / 16, by omega⟩ (by show 16 * (r / 16 - lo c t / 16) < _; omega)
  rwa [show lo c t / 16 + (r / 16 - lo c t / 16) = r / 16 by omega] at this

/-- What device `c`'s scratch buffer holds once every transfer has landed. -/
def got (c : Dev nD) : (cc0_scratch0 : Ref sig .tc).ty.Contents (Elt F) := fun i => xstg m ρ (org c ((i 0).val / 16)) i
/-- What device `c` stores: its own block plus the one it received. -/
def outAt (c : Dev nD) : (cc0_stg1_0 : Ref sig .tc).ty.Contents (Elt F) := addf (F := F) (φ := .bf16) (s := S8192x1024) (xstg m ρ c) (got m ρ c)

omit [FloatOps F] in
/-- On the rows of a transfer along `x` the receiver is to hold the sender's block; -/
theorem got_x {c : Dev nD} {t : Tr} (ht : lane t = 0) : ∀ i ∈ band (lo c t) (len t), xstg m ρ c i = got m ρ (nb (lane t) c) i := by
  intro i hi
  rw [mem_band] at hi
  unfold got
  rw [ht, org_x ht hi.1 hi.2]
omit [FloatOps F] in
/-- on the rows of a transfer along `y` or `z`, what the sender holds. -/
theorem got_yz {c : Dev nD} {t : Tr} (ht : lane t ≠ 0) : ∀ i ∈ band (lo c t) (len t), got m ρ c i = got m ρ (nb (lane t) c) i := by
  intro i hi
  rw [mem_band] at hi
  unfold got
  rw [org_yz ht hi.1 hi.2]

end Cert.CubeSum

end
-- ==== Proof.Schedule.lean ====
/-
The protocol: one barrier semaphore and fifteen pairs of a send and a receive semaphore on each device; what each
credit hands over; what each device owes, in the order in which it pays; the order in which cells may be waited on.

A device signals the barrier of each of its three partners, and with the signal gives the partner the rows of its
scratch buffer that the partner's transfers are to land on. A send semaphore gives the source rows back, a receive
semaphore the landed rows.
-/
module

public import proofs.«01_k».proof.Proof.Contents

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the staging pipeline's, and this protocol's with duties named by the three lanes -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- The barrier semaphore, and the send and the receive semaphore of transfer `t`. -/
abbrev barS : Sem sig := (SemArray.scalar (sig.barrier 0 rfl) : Sems sig S_).sem
set_option backward.proofsInPublic true in
def sndS (t : Tr) : DmaSem sig := (⟨2 + 10 * (t.val / 5) + t.val % 5, by omega⟩ : Fin 32)
set_option backward.proofsInPublic true in
def rcvS (t : Tr) : DmaSem sig := (⟨7 + 10 * (t.val / 5) + t.val % 5, by omega⟩ : Fin 32)

abbrev barCell (c : Dev nD) : GSem nD τ sig := ((c : Thread nD τ), .reg barS)
abbrev sndCell (c : Dev nD) (t : Tr) : GSem nD τ sig := ((c : Thread nD τ), .dma (sndS t))
abbrev rcvCell (c : Dev nD) (t : Tr) : GSem nD τ sig := ((c : Thread nD τ), .dma (rcvS t))

set_option backward.proofsInPublic true in
/-- The transfer a DMA semaphore belongs to, and whether it is a receive or a send semaphore. -/
def trOf (q : DmaSem sig) : Tr := ⟨((q.val - 2) / 10 * 5 + (q.val - 2) % 5) % 15, Nat.mod_lt _ (by decide)⟩
def isRcv (q : DmaSem sig) : Bool := decide (2 ≤ q.val ∧ 5 ≤ (q.val - 2) % 10)
def isSnd (q : DmaSem sig) : Bool := decide (2 ≤ q.val ∧ (q.val - 2) % 10 < 5)

theorem trOf_snd : ∀ t, trOf (sndS t) = t := by decide +kernel
theorem trOf_rcv : ∀ t, trOf (rcvS t) = t := by decide +kernel
theorem isRcv_snd : ∀ t, isRcv (sndS t) = false := by decide +kernel
theorem isRcv_rcv : ∀ t, isRcv (rcvS t) = true := by decide +kernel
theorem isSnd_snd : ∀ t, isSnd (sndS t) = true := by decide +kernel
theorem isSnd_rcv : ∀ t, isSnd (rcvS t) = false := by decide +kernel

theorem top_inb (t : Tr) : ∀ a, (![0, 0] : Fin 2 → ℕ) a + (⟨2, ![len t, 1024]⟩ : Shape).size a ≤ S8192x1024.size a := by
  have := len_le t
  rw [Fin.forall_fin_two]
  constructor
  · show 0 + len t ≤ 8192; omega
  · show 0 + 1024 ≤ 1024; omega

/-- The credit that transfer `t` raises. -/
def N (t : Tr) : ℕ := (bM.slice (rows ![0, 0] (len t) (top_inb t)) (fun _ => rfl)).view.dmaCredit
theorem N_pos (t : Tr) : 0 < N t := View.dmaCredit_pos _ (by
  show 0 < (⟨2, ![len t, 1024]⟩ : Shape).numel
  have := len_pos t
  simp [Shape.numel, Fin.prod_univ_two]
  exact this)

/-! ## Ownership of rows -/

def xPts (c : Dev nD) (S : Finset S8192x1024.Idx) (q : PosShare TreeShare) (f : (cc0_stg0_0 : Ref sig .tc).ty.Contents (Elt F)) : sProp 𝕄 :=
  ((c : Thread nD τ).loc cc0_stg0_0 : Loc nD τ sig) ↦[S]{q} (f : Buf (Elt F) ((c : Thread nD τ).loc cc0_stg0_0))
def oPts (c : Dev nD) (S : Finset S8192x1024.Idx) (f : (cc0_stg1_0 : Ref sig .tc).ty.Contents (Elt F)) : sProp 𝕄 :=
  ((c : Thread nD τ).loc cc0_stg1_0 : Loc nD τ sig) ↦[S]{fullShare} (f : Buf (Elt F) ((c : Thread nD τ).loc cc0_stg1_0))
def bPts (c : Dev nD) (S : Finset S8192x1024.Idx) (q : PosShare TreeShare) (f : (cc0_scratch0 : Ref sig .tc).ty.Contents (Elt F)) : sProp 𝕄 :=
  ((c : Thread nD τ).loc cc0_scratch0 : Loc nD τ sig) ↦[S]{q} (f : Buf (Elt F) ((c : Thread nD τ).loc cc0_scratch0))

omit [FloatOps F] in
instance xPts_storable (c : Dev nD) (S q f) : BI.Storable (upEmb : UEmb _ 𝕄) (xPts (F := F) c S q f) := by unfold xPts; infer_instance
omit [FloatOps F] in
instance oPts_storable (c : Dev nD) (S f) : BI.Storable (upEmb : UEmb _ 𝕄) (oPts (F := F) c S f) := by unfold oPts; infer_instance
omit [FloatOps F] in
instance bPts_storable (c : Dev nD) (S q f) : BI.Storable (upEmb : UEmb _ 𝕄) (bPts (F := F) c S q f) := by unfold bPts; infer_instance

/-- The rows of the partner's scratch buffer that transfer `t` from `c` is to land on, at any contents. -/
def hole (c : Dev nD) (t : Tr) : sProp 𝕄 := iprop(∃ f, bPts (nb (lane t) c) (band (lo c t) (len t)) fullShare f)

omit [FloatOps F] in
instance hole_storable (c : Dev nD) (t : Tr) : BI.Storable (upEmb : UEmb _ 𝕄) (hole (F := F) c t) := by unfold hole; infer_instance

omit [FloatOps F] in
theorem hole_own (c : Dev nD) (t : Tr) : (hole (nb (lane t) c) t : sProp 𝕄) = iprop(∃ f, bPts c (rband c t) fullShare f) := by
  unfold hole; rw [nb_nb]; rfl

/-- What the signal from the partner along lane `l` hands device `c`. -/
def barPay (c : Dev nD) (l : Fin 3) : sProp 𝕄 := match l with
  | 0 => iprop(hole c 0 ∗ hole c 1 ∗ hole c 2 ∗ hole c 3 ∗ hole c 4)
  | 1 => iprop(hole c 5 ∗ hole c 6 ∗ hole c 7 ∗ hole c 8 ∗ hole c 9)
  | 2 => iprop(hole c 10 ∗ hole c 11 ∗ hole c 12 ∗ hole c 13 ∗ hole c 14)

omit [FloatOps F] in
instance barPay_storable (c : Dev nD) (l : Fin 3) : BI.Storable (upEmb : UEmb _ 𝕄) (barPay (F := F) c l) := by
  fin_cases l <;> (unfold barPay; infer_instance)

/-- The share of its source rows that a transfer takes with it: the half of `x` that is not read meanwhile; a half and a
    quarter of the rows sent on both along `y` and along `z`; all of the rows sent on once. -/
def shr (t : Tr) : PosShare TreeShare :=
  if t.val = 9 ∨ t.val = 14 then fullShare else if lane t = 2 then fullShare.right.left else fullShare.left

/-- The source rows of transfer `t`: of the device's own block along `x`, of its scratch buffer along `y` and `z`. -/
def srcX (c : Dev nD) (t : Tr) : sProp 𝕄 := xPts c (band (lo c t) (len t)) (shr t) (xstg m ρ c)
def srcB (c : Dev nD) (t : Tr) : sProp 𝕄 := bPts c (band (lo c t) (len t)) (shr t) (got m ρ c)
def src (c : Dev nD) (t : Tr) : sProp 𝕄 := if lane t = 0 then srcX m ρ c t else srcB m ρ c t

/-- The rows transfer `t` to device `c` landed on. -/
def landed (c : Dev nD) (t : Tr) : sProp 𝕄 := bPts c (rband c t) fullShare (got m ρ c)

instance src_storable (c : Dev nD) (t : Tr) : BI.Storable (upEmb : UEmb _ 𝕄) (src (F := F) m ρ c t) := by
  unfold src srcX srcB; split <;> infer_instance
instance landed_storable (c : Dev nD) (t : Tr) : BI.Storable (upEmb : UEmb _ 𝕄) (landed (F := F) m ρ c t) := by
  unfold landed; infer_instance

/-! ## The schedule: one round -/

/-- A barrier cell has one unit due from each of the three partners; a send or receive cell has its transfer's credit. -/
def Rd : Rounds.Schedule (GSem nD τ sig) (Fin 3) 𝕄 where
  duties g r := if r = 0 ∧ g.1.2 = .tc then
      (match g.2 with | .reg s => if s = barS then Finset.univ else ∅ | .dma q => if 2 ≤ q.val then {0} else ∅)
    else ∅
  unitless _ := False
  amount g _ _ := match g.2 with | .reg _ => 1 | .dma q => N (trOf q)
  payload g _ d := match g.2 with
    | .reg _ => barPay g.1.1 d
    | .dma q => if isRcv q then landed m ρ g.1.1 (trOf q) else src m ρ g.1.1 (trOf q)
  amount_pos g _ _ _ := by
    rcases g with ⟨_, s | q⟩
    · exact Nat.one_pos
    · exact N_pos _

instance Rd_payload_storable (g : GSem nD τ sig) (r : ℕ) (d : Fin 3) :
    BI.Storable (upEmb : UEmb _ 𝕄) ((Rd (F := F) m ρ).payload g r d) := by
  rcases g with ⟨th, s | q⟩
  · show BI.Storable upEmb (barPay th.1 d); infer_instance
  · show BI.Storable upEmb (if isRcv q then landed m ρ th.1 (trOf q) else src m ρ th.1 (trOf q))
    split <;> infer_instance

section Sched
variable (c : Dev nD) (t : Tr)

theorem two_le_snd : 2 ≤ (sndS t).val := by show 2 ≤ 2 + 10 * (t.val / 5) + t.val % 5; omega
theorem two_le_rcv : 2 ≤ (rcvS t).val := by show 2 ≤ 7 + 10 * (t.val / 5) + t.val % 5; omega

theorem duties_bar : (Rd (F := F) m ρ).duties (barCell c) 0 = Finset.univ := by
  dsimp only [Rd]; rw [if_pos ⟨rfl, rfl⟩]; exact if_pos rfl
theorem duties_snd : (Rd (F := F) m ρ).duties (sndCell c t) 0 = {0} := by
  dsimp only [Rd]; rw [if_pos ⟨rfl, rfl⟩]; exact if_pos (two_le_snd t)
theorem duties_rcv : (Rd (F := F) m ρ).duties (rcvCell c t) 0 = {0} := by
  dsimp only [Rd]; rw [if_pos ⟨rfl, rfl⟩]; exact if_pos (two_le_rcv t)
theorem duties_later (g : GSem nD τ sig) : ∀ r, 1 ≤ r → (Rd (F := F) m ρ).duties g r = ∅ :=
  fun r hr => by dsimp only [Rd]; rw [if_neg fun h => by omega]

theorem amount_bar (d : Fin 3) : (Rd (F := F) m ρ).amount (barCell c) 0 d = 1 := rfl
theorem amount_snd (d : Fin 3) : (Rd (F := F) m ρ).amount (sndCell c t) 0 d = N t := by dsimp only [Rd]; rw [trOf_snd]
theorem amount_rcv (d : Fin 3) : (Rd (F := F) m ρ).amount (rcvCell c t) 0 d = N t := by dsimp only [Rd]; rw [trOf_rcv]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd : (Rd (F := F) m ρ).expect (sndCell c t) 0 = N t := by
  unfold Schedule.expect Schedule.amountOf; rw [duties_snd, Finset.sum_singleton, amount_snd]
theorem expect_rcv : (Rd (F := F) m ρ).expect (rcvCell c t) 0 = N t := by
  unfold Schedule.expect Schedule.amountOf; rw [duties_rcv, Finset.sum_singleton, amount_rcv]

theorem payload_bar (d : Fin 3) : (Rd (F := F) m ρ).payload (barCell c) 0 d = barPay c d := rfl
theorem payload_snd (d : Fin 3) : (Rd (F := F) m ρ).payload (sndCell c t) 0 d = src m ρ c t := by
  dsimp only [Rd]; rw [isRcv_snd, trOf_snd]; exact if_neg Bool.false_ne_true
theorem payload_rcv (d : Fin 3) : (Rd (F := F) m ρ).payload (rcvCell c t) 0 d = landed m ρ c t := by
  dsimp only [Rd]; rw [isRcv_rcv, trOf_rcv]; exact if_pos rfl

theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar]; exact bigSep_univ_eq_bigSepL ([0, 1, 2] : List (Fin 3)) (by decide) (by decide) _
theorem rest_snd : bigSep ((Rd (F := F) m ρ).duties (sndCell c t) 0 \ ∅) (fun d => (Rd (F := F) m ρ).payload (sndCell c t) 0 d) = src m ρ c t := by
  rw [Finset.sdiff_empty, duties_snd, bigSep_singleton, payload_snd]
theorem rest_rcv : bigSep ((Rd (F := F) m ρ).duties (rcvCell c t) 0 \ ∅) (fun d => (Rd (F := F) m ρ).payload (rcvCell c t) 0 d) = landed m ρ c t := by
  rw [Finset.sdiff_empty, duties_rcv, bigSep_singleton, payload_rcv]

end Sched

/-! ## What a device owes -/

/-- A due: a barrier unit to the partner along a lane, or the credit of a transfer. -/
abbrev Due : Type := Fin 3 ⊕ Tr

def dueCell (c : Dev nD) : Due → GSem nD τ sig
  | .inl l => barCell (nb l c)
  | .inr t => rcvCell (nb (lane t) c) t
def dueAmt : Due → ℕ
  | .inl _ => 1
  | .inr t => N t

/-- What is owed for a list of dues, the head being paid first. -/
def dues (c : Dev nD) : List Due → CellTallies nD τ sig Unit
  | [] => 0
  | d :: ds => dues c ds + tallyAt (dueCell c d) () (dueAmt d)

/-! ## The transfers still to be made when `n` of them are left, in the program's order -/

abbrev owed0 : List Due := []
abbrev owed1 : List Due := .inr 9 :: owed0
abbrev owed2 : List Due := .inr 13 :: owed1
abbrev owed3 : List Due := .inr 8 :: owed2
abbrev owed4 : List Due := .inr 14 :: owed3
abbrev owed5 : List Due := .inr 12 :: owed4
abbrev owed6 : List Due := .inr 7 :: owed5
abbrev owed7 : List Due := .inr 11 :: owed6
abbrev owed8 : List Due := .inr 6 :: owed7
abbrev owed9 : List Due := .inr 10 :: owed8
abbrev owed10 : List Due := .inr 5 :: owed9
abbrev owed11 : List Due := .inr 4 :: owed10
abbrev owed12 : List Due := .inr 3 :: owed11
abbrev owed13 : List Due := .inr 2 :: owed12
abbrev owed14 : List Due := .inr 1 :: owed13
abbrev owed15 : List Due := .inr 0 :: owed14

/-- The dues of a device in the order in which the program pays them: the three signals first. -/
abbrev allDues : List Due := .inl 0 :: .inl 1 :: .inl 2 :: owed15

def O₀ (c : Dev nD) : CellTallies nD τ sig Unit := dues c allDues

/-! ## Levels: a cell may be waited on while everything owed lies above it -/

def lvS : SemLoc sig → ℕ
  | .reg s => if s = barS then 1 else 0
  | .dma q => if isRcv q then (if lane (trOf q) = 0 then 2 else 3 + (trOf q).val % 5) else 0
def lvD : Due → ℕ
  | .inl _ => 1
  | .inr t => if lane t = 0 then 2 else 3 + t.val % 5

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar : lvS (.reg barS) = 1 := by unfold lvS; exact if_pos rfl
theorem lv_rcv (t : Tr) : lvS (.dma (rcvS t)) = lvD (.inr t) := by
  unfold lvS; dsimp only; rw [isRcv_rcv, trOf_rcv]; exact if_pos rfl
theorem lv_due (c : Dev nD) (d : Due) : lv (dueCell c d) () = lvD d := by
  rcases d with l | t
  · show lvS (.reg barS) = 1
    unfold lvS; exact if_pos rfl
  · exact lv_rcv t
theorem L_due (c : Dev nD) (d : Due) : L (dueCell c d) = {()} := by
  rcases d with l | t <;> exact L_tc _ _

theorem dues_pos {c : Dev nD} {ds : List Due} {g : GSem nD τ sig} {u : Unit} (h : 0 < dues c ds g u) : ∃ d ∈ ds, g = dueCell c d := by
  induction ds with
  | nil => exact absurd h (Nat.lt_irrefl 0)
  | cons d ds ih =>
    unfold dues at h
    rw [Pi.add_apply, Finsupp.add_apply, tallyAt_apply] at h
    by_cases hg : g = dueCell c d
    · exact ⟨d, List.mem_cons_self, hg⟩
    · rw [if_neg (fun h' => hg h'.1), Nat.add_zero] at h
      obtain ⟨d', hd', e⟩ := ih h
      exact ⟨d', List.mem_cons_of_mem _ hd', e⟩

omit [FloatOps F] in
/-- A device may wait on a cell while all its outstanding dues lie above it. -/
theorem mayWait_dues (c : Dev nD) (sm : SemLoc sig) (ds : List Due) (h : ∀ d ∈ ds, lvS sm < lvD d) :
    (levAts L lv : sProp 𝕄) ⊢ MayWait (c : Thread nD τ) sm () (dues c ds) :=
  MayOwe.of_cut (L := L) (lev := lv) (lvS sm) (fun p hp => by rw [Finset.mem_singleton.mp hp, L_tc]; exact Finset.mem_singleton_self _)
    (fun g u hg => by
      obtain ⟨d, -, rfl⟩ := dues_pos hg
      rw [L_due]; exact Finset.mem_singleton_self _)
    (fun p hp => by rw [Finset.mem_singleton.mp hp]; exact le_rfl)
    (fun g u hg => by
      obtain ⟨d, hd, rfl⟩ := dues_pos hg
      rw [show lv (dueCell c d) u = lvD d from lv_due c d]; exact h d hd)

end Cert.CubeSum

end
-- ==== Proof.Steps.lean ====
/-
One lemma per kind of step of the kernel: a signal to a partner's barrier, the wait on the own barrier, a transfer, a wait
for a transfer to land or to have left, a load of `x`, and an addition stored to the result.
-/
module

public import proofs.«01_k».proof.Proof.Schedule

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records of the protocol, which every device may consult -/

/-- A device's cells: the barrier, the send cells, the receive cells. -/
abbrev Ci : Type := Unit ⊕ (Tr ⊕ Tr)
abbrev csem : Ci → SemLoc sig
  | .inl _ => .reg barS
  | .inr (.inl t) => .dma (sndS t)
  | .inr (.inr t) => .dma (rcvS t)
abbrev kcell (ck : Dev nD × Ci) : GSem nD τ sig := ((ck.1 : Thread nD τ), csem ck.2)

/-- Every cell's invariant, that every cell has reached round 0, and the levels. -/
def records (K : Dev nD × Ci → ℕ) : sProp 𝕄 :=
  iprop((bigSep Finset.univ fun ck : Dev nD × Ci => cellInv ER (Rd m ρ) (K ck) (kcell ck))
    ∗ (bigSep Finset.univ fun ck : Dev nD × Ci => reached ER (kcell ck) 0) ∗ levAts L lv)

instance records_persistent (K : Dev nD × Ci → ℕ) : BI.Persistent (records m ρ K) := by unfold records; infer_instance

variable (K : Dev nD × Ci → ℕ)

theorem inv_at (ck : Dev nD × Ci) : records m ρ K ⊢ cellInv ER (Rd m ρ) (K ck) (kcell ck) := by
  have h : (bigSep Finset.univ fun ck : Dev nD × Ci => (cellInv ER (Rd m ρ) (K ck) (kcell ck) : sProp 𝕄)) ⊢ cellInv ER (Rd m ρ) (K ck) (kcell ck) :=
    bigSep_elim (Finset.mem_univ ck)
  unfold records
  iintro ⟨H, -, -⟩
  iapply h; iexact H
theorem reached_at (ck : Dev nD × Ci) : records m ρ K ⊢ reached ER (kcell ck) 0 := by
  have h : (bigSep Finset.univ fun ck : Dev nD × Ci => (reached ER (kcell ck) 0 : sProp 𝕄)) ⊢ reached ER (kcell ck) 0 :=
    bigSep_elim (Finset.mem_univ ck)
  unfold records
  iintro ⟨-, H, -⟩
  iapply h; iexact H
/-- By the levels, a device may wait on a cell while all its outstanding dues lie above it. -/
theorem mayWait_at (c : Dev nD) (sm : SemLoc sig) (ds : List Due) (h : ∀ d ∈ ds, lvS sm < lvD d) :
    records m ρ K ⊢ MayWait (c : Thread nD τ) sm () (dues c ds) := by
  unfold records
  iintro ⟨-, -, H⟩
  iapply (mayWait_dues (F := F) c sm ds h)
  iexact H

/-- What a device still owes, whatever it has waited on. -/
def Owe (c : Dev nD) (ds : List Due) : sProp 𝕄 := iprop(∃ W, owes (c : Thread nD τ) (dues c ds) W)

/-- What a transfer needs beside its source and the rows it lands on: the right to its two credits, and the place of the
    send cell. -/
def ship (c : Dev nD) (t : Tr) : sProp 𝕄 :=
  iprop(dutyTok ER (sndCell c t) 0 0 ∗ dutyTok ER (rcvCell (nb (lane t) c) t) 0 0 ∗ atPos ER (sndCell c t) 0 ∅ 0)

/-- A transfer on its way: the credit to wait for on the send cell. -/
def flying (c : Dev nD) (t : Tr) : sProp 𝕄 := iprop(cred (tallyAt (sndCell c t) () (N t)) ∗ atPos ER (sndCell c t) 0 ∅ 0)
/-- A transfer still to land on the device: the credit to wait for on the receive cell. -/
def inbound (c : Dev nD) (t : Tr) : sProp 𝕄 := iprop(cred (tallyAt (rcvCell c t) () (N t)) ∗ atPos ER (rcvCell c t) 0 ∅ 0)

/-- A send cell, a receive cell at zero. -/
def sndZ (c : Dev nD) (t : Tr) : sProp 𝕄 := semVal (sndCell c t) 0
def rcvZ (c : Dev nD) (t : Tr) : sProp 𝕄 := semVal (rcvCell c t) 0

/-- The result's rows that transfer `t` lands on: at any contents, and holding the sum. -/
def blank (c : Dev nD) (t : Tr) : sProp 𝕄 := iprop(∃ f, oPts c (rband c t) f)
def summed (c : Dev nD) (t : Tr) : sProp 𝕄 := oPts c (rband c t) (outAt m ρ c)

abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-! ## The barrier -/

/-- A signal to the partner along `l`, with the rows its transfers are to land on. -/
theorem wp_bar {Q : α → sProp 𝕄} (c : Dev nD) (l : Fin 3) {n : Dev nD} (hn : n = nb l c) {ds : List Due} {k : PUnit → Prog (TpuEff nD τ sig (Elt F) Λ₀ .tc) α} {w : ℤ} (hw : w = 1) :
    records m ρ K ⊢ iprop(Owe c (.inl l :: ds) -∗ dutyTok ER (barCell (nb l c)) 0 l -∗ barPay (nb l c) l
      -∗ (Owe c ds -∗ run c (k ⟨⟩) Q) -∗ run c (.op (.semSignal (n, .tc) barS w) k) Q) := by
  subst hn; subst hw
  iintro #HR HO Ht Hp Hk
  unfold Owe
  icases HO with ⟨%W, HO⟩
  iapply (Rounds.wp_signal 𝒱₀ ER (Rd m ρ) (c : Thread nD τ) none (dst := (nb l c : Thread nD τ)) (κ := K (nb l c, .inl ()))
      (d := l) (by rw [duties_bar]; exact Finset.mem_univ _) (amount_bar m ρ (nb l c) l) () (dues c ds) rfl) $$ [HO Ht Hp]
  · isplitr; · iapply (inv_at m ρ K (nb l c, .inl ())); iexact HR
    isplitl [HO]; · iexact HO
    isplitl [Ht]; · iexact Ht
    isplitl [Hp]; · rw [payload_bar]; iexact Hp
    iapply (reached_at m ρ K (nb l c, .inl ())); iexact HR
  iintro HO
  iapply Hk
  iexists W; iexact HO

/-- The wait for the three partners' signals: the rows all transfers land on. -/
theorem wp_barWait {Q : α → sProp 𝕄} (c : Dev nD) {ds : List Due} (hds : ∀ d ∈ ds, 1 < lvD d) {k : PUnit → Prog (TpuEff nD τ sig (Elt F) Λ₀ .tc) α} {w : ℤ} (hw : w = 3) :
    records m ρ K ⊢ iprop(Owe c ds -∗ cred (tallyAt (barCell c) () 3) -∗ atPos ER (barCell c) 0 ∅ 0
      -∗ ((Owe c ds ∗ semVal (barCell c) 0 ∗ barPay c 0 ∗ barPay c 1 ∗ barPay c 2) -∗ run c (k ⟨⟩) Q) -∗ run c (.op (.semWait barS w) k) Q) := by
  subst hw
  iintro #HR HO Hc Ha Hk
  unfold Owe
  icases HO with ⟨%W, HO⟩
  iapply (Rounds.wp_wait_rest_token 𝒱₀ ER (Rd m ρ) (c : Thread nD τ) none (κ := K (c, .inl ()))
      (wpE_semWait_eq 𝒱₀ (c : Thread nD τ) none Set.univ) (Set.mem_univ _) () (O := dues c ds) (W := W) (R := 0) (m := 0) (T := ∅)
      (by rw [expect_bar])) $$ [HO Hc Ha]
  · isplitr; · iapply (inv_at m ρ K (c, .inl ())); iexact HR
    isplitl [Hc]; · iexact Hc
    isplitl [HO]; · iexact HO
    isplitr
    · iapply (mayWait_at m ρ K c (.reg barS) ds (fun d hd => lt_of_eq_of_lt lv_bar (hds d hd))); iexact HR
    iexact Ha
  iintro ⟨HO, Ha, -, Hpay⟩
  imod (Rounds.cell_close ER (Rd m ρ) (Set.mem_univ (K (c, .inl ()))) (fun h => h) (R := 0 + 1) (duties_later m ρ (barCell c))) $$ [Ha] with Hz
  · isplitr; · iapply (inv_at m ρ K (c, .inl ())); iexact HR
    iexact Ha
  ihave Hp := (Entails.of_eq (rest_bar m ρ c)) $$ Hpay
  iapply Hk
  isplitl [HO]; · iexists _; iexact HO
  isplitl [Hz]; · iexact Hz
  iexact Hp

/-! ## Transfers -/

omit [FloatOps F] in
/-- The credit of rows of the scratch buffer depends on their number alone; -/
theorem N_eq (t : Tr) {off : Fin 2 → ℕ} (inb) : (bM.slice (rows off (len t) inb) (fun _ => rfl) : Memref sig .tc .vmem ⟨2, ![len t, 1024]⟩ .bf16).view.dmaCredit = N t := by
  unfold N View.dmaCredit; rfl

omit [FloatOps F] in
/-- the same holds of rows of the staged block. -/
theorem N_eq_x (t : Tr) {off : Fin 2 → ℕ} (inb) : (xM.slice (rows off (len t) inb) (fun _ => rfl) : Memref sig .tc .vmem ⟨2, ![len t, 1024]⟩ .bf16).view.dmaCredit = N t := by
  unfold N View.dmaCredit; rfl

/-- A transfer along `x`, from the device's own block. -/
theorem wp_sendX {Q : α → sProp 𝕄} (c : Dev nD) (t : Tr) (ht : lane t = 0) {n : Dev nD} (hn : n = nb (lane t) c) {a : ℕ} (ha : a = len t) {off : Fin 2 → ℕ} (hoff : off = ![lo c t, 0]) {inb inb'}
    {sS rS : DmaSem sig} (hsS : sS = sndS t) (hrS : rS = rcvS t)
    {hsc : (bM.slice (rows off a inb) (fun _ => rfl) : Memref sig (Dev.tc n : Thread nD τ).2.kind .vmem ⟨2, ![a, 1024]⟩ .bf16).view.ref.isScScratch = false}
    {hsrc : (xM.slice (rows off a inb') (fun _ => rfl) : Memref sig .tc .vmem ⟨2, ![a, 1024]⟩ .bf16).view.WordExact} {hdst : (bM.slice (rows off a inb) (fun _ => rfl) : Memref sig .tc .vmem ⟨2, ![a, 1024]⟩ .bf16).view.WordExact}
    {hsem : DmaTarget.Typed .vmem (.dma rS) (.remote (Dev.tc n : Thread nD τ) (bM.slice (rows off a inb) (fun _ => rfl) : Memref sig .tc .vmem ⟨2, ![a, 1024]⟩ .bf16) (.dma sS) hsc)}
    {ds : List Due} {k : PUnit → Prog (TpuEff nD τ sig (Elt F) Λ₀ .tc) α} :
    records m ρ K ⊢ iprop(Owe c (.inr t :: ds) -∗ srcX m ρ c t -∗ hole c t -∗ ship c t
      -∗ ((flying c t ∗ Owe c ds) -∗ run c (k ⟨⟩) Q)
      -∗ run c (.op (.enqueueDma (xM.slice (rows off a inb') (fun _ => rfl) : Memref sig .tc .vmem ⟨2, ![a, 1024]⟩ .bf16)
          (.remote (Dev.tc n : Thread nD τ) (bM.slice (rows off a inb) (fun _ => rfl) : Memref sig .tc .vmem ⟨2, ![a, 1024]⟩ .bf16) (.dma sS) hsc) (.dma rS) hsrc hdst hsem) k) Q) := by
  subst hn; subst ha; subst hsS; subst hrS
  have hset : (rows off (len t) inb).set = band (lo c t) (len t) := rows_set hoff
  have hset' : (bM.slice (rows off (len t) inb) (fun _ => rfl) : Memref sig .tc .vmem ⟨2, ![len t, 1024]⟩ .bf16).view.set = band (lo c t) (len t) := (View.set_slice_whole _ _).trans hset
  have hset'' : (xM.slice (rows off (len t) inb') (fun _ => rfl) : Memref sig .tc .vmem ⟨2, ![len t, 1024]⟩ .bf16).view.set = band (lo c t) (len t) := (View.set_slice_whole _ _).trans hset
  have hN : (bM.slice (rows off (len t) inb) (fun _ => rfl) : Memref sig .tc .vmem ⟨2, ![len t, 1024]⟩ .bf16).view.amount (.dma (rcvS t)) = N t := N_eq t inb
  iintro #HR HO Hs Hh Hsh Hk
  unfold Owe hole ship
  icases HO with ⟨%W, HO⟩
  icases Hh with ⟨%fn, Hh⟩
  icases Hsh with ⟨Ht1, Ht2, Ha⟩
  iapply (Rounds.wp_send_pointsTo 𝒱₀ ER (Rd m ρ) (c : Thread nD τ) none (κ₁ := K (c, .inr (.inl t))) (κ₂ := K (nb (lane t) c, .inr (.inr t)))
    (r₁ := 0) (r₂ := 0) (d₁ := 0) (d₂ := 0) (q := shr t) (fs := xstg m ρ c) (fd := fn)
    (by rw [duties_snd]; exact Finset.mem_singleton_self _) (by rw [duties_rcv]; exact Finset.mem_singleton_self _)
    () () (N t) (hN) (amount_snd m ρ c t 0) (amount_rcv m ρ (nb (lane t) c) t 0) (dues c ds) rfl (W := W)
    (by rw [payload_snd]; unfold src srcX xPts; rw [if_pos ht, hset''])
    (by
      rw [payload_rcv]; unfold landed bPts rband; rw [rlo_nb, hset']
      exact Entails.of_eq (pointsTo_congr fun i hi => (copied (r := rows off (len t) inb) (fun _ => rfl) fn (xstg m ρ c) i (hset.symm ▸ hi)).trans (got_x m ρ ht i hi))))
    $$ [HO Hs Hh Ht1 Ht2]
  · isplitr; · iapply (inv_at m ρ K (c, .inr (.inl t))); iexact HR
    isplitr; · iapply (inv_at m ρ K (nb (lane t) c, .inr (.inr t))); iexact HR
    isplitl [Hs]; · unfold srcX xPts; rw [hset'']; iexact Hs
    isplitl [Hh]; · unfold bPts; rw [hset']; iexact Hh
    isplitl [HO]; · iexact HO
    isplitl [Ht1]; · iexact Ht1
    isplitr; · iapply (reached_at m ρ K (c, .inr (.inl t))); iexact HR
    isplitl [Ht2]; · iexact Ht2
    iapply (reached_at m ρ K (nb (lane t) c, .inr (.inr t))); iexact HR
  iintro ⟨Hc, HO⟩
  iapply Hk
  isplitl [Hc Ha]
  · unfold flying
    isplitl [Hc] <;> iassumption
  iexists W; iexact HO

/-- A transfer along `y` or `z`, from the device's scratch buffer. -/
theorem wp_sendB {Q : α → sProp 𝕄} (c : Dev nD) (t : Tr) (ht : lane t ≠ 0) {n : Dev nD} (hn : n = nb (lane t) c) {a : ℕ} (ha : a = len t) {off : Fin 2 → ℕ} (hoff : off = ![lo c t, 0]) {inb inb'}
    {sS rS : DmaSem sig} (hsS : sS = sndS t) (hrS : rS = rcvS t)
    {hsc : (bM.slice (rows off a inb) (fun _ => rfl) : Memref sig (Dev.tc n : Thread nD τ).2.kind .vmem ⟨2, ![a, 1024]⟩ .bf16).view.ref.isScScratch = false}
    {hsrc : (bM.slice (rows off a inb') (fun _ => rfl) : Memref sig .tc .vmem ⟨2, ![a, 1024]⟩ .bf16).view.WordExact} {hdst : (bM.slice (rows off a inb) (fun _ => rfl) : Memref sig .tc .vmem ⟨2, ![a, 1024]⟩ .bf16).view.WordExact}
    {hsem : DmaTarget.Typed .vmem (.dma rS) (.remote (Dev.tc n : Thread nD τ) (bM.slice (rows off a inb) (fun _ => rfl) : Memref sig .tc .vmem ⟨2, ![a, 1024]⟩ .bf16) (.dma sS) hsc)}
    {ds : List Due} {k : PUnit → Prog (TpuEff nD τ sig (Elt F) Λ₀ .tc) α} :
    records m ρ K ⊢ iprop(Owe c (.inr t :: ds) -∗ srcB m ρ c t -∗ hole c t -∗ ship c t
      -∗ ((flying c t ∗ Owe c ds) -∗ run c (k ⟨⟩) Q)
      -∗ run c (.op (.enqueueDma (bM.slice (rows off a inb') (fun _ => rfl) : Memref sig .tc .vmem ⟨2, ![a, 1024]⟩ .bf16)
          (.remote (Dev.tc n : Thread nD τ) (bM.slice (rows off a inb) (fun _ => rfl) : Memref sig .tc .vmem ⟨2, ![a, 1024]⟩ .bf16) (.dma sS) hsc) (.dma rS) hsrc hdst hsem) k) Q) := by
  subst hn; subst ha; subst hsS; subst hrS
  have hset : (rows off (len t) inb).set = band (lo c t) (len t) := rows_set hoff
  have hset' : (bM.slice (rows off (len t) inb) (fun _ => rfl) : Memref sig .tc .vmem ⟨2, ![len t, 1024]⟩ .bf16).view.set = band (lo c t) (len t) := (View.set_slice_whole _ _).trans hset
  have hN : (bM.slice (rows off (len t) inb) (fun _ => rfl) : Memref sig .tc .vmem ⟨2, ![len t, 1024]⟩ .bf16).view.amount (.dma (rcvS t)) = N t := N_eq t inb
  iintro #HR HO Hs Hh Hsh Hk
  unfold Owe hole ship
  icases HO with ⟨%W, HO⟩
  icases Hh with ⟨%fn, Hh⟩
  icases Hsh with ⟨Ht1, Ht2, Ha⟩
  iapply (Rounds.wp_send_pointsTo 𝒱₀ ER (Rd m ρ) (c : Thread nD τ) none (κ₁ := K (c, .inr (.inl t))) (κ₂ := K (nb (lane t) c, .inr (.inr t)))
    (r₁ := 0) (r₂ := 0) (d₁ := 0) (d₂ := 0) (q := shr t) (fs := got m ρ c) (fd := fn)
    (by rw [duties_snd]; exact Finset.mem_singleton_self _) (by rw [duties_rcv]; exact Finset.mem_singleton_self _)
    () () (N t) (hN) (amount_snd m ρ c t 0) (amount_rcv m ρ (nb (lane t) c) t 0) (dues c ds) rfl (W := W)
    (by rw [payload_snd]; unfold src srcB bPts; rw [if_neg ht, hset'])
    (by
      rw [payload_rcv]; unfold landed bPts rband; rw [rlo_nb, hset']
      exact Entails.of_eq (pointsTo_congr fun i hi => (copied' (r := rows off (len t) inb) (fun _ => rfl) fn (got m ρ c) i (hset.symm ▸ hi)).trans (got_yz m ρ ht i hi))))
    $$ [HO Hs Hh Ht1 Ht2]
  · isplitr; · iapply (inv_at m ρ K (c, .inr (.inl t))); iexact HR
    isplitr; · iapply (inv_at m ρ K (nb (lane t) c, .inr (.inr t))); iexact HR
    isplitl [Hs]; · unfold srcB bPts; rw [hset']; iexact Hs
    isplitl [Hh]; · unfold bPts; rw [hset']; iexact Hh
    isplitl [HO]; · iexact HO
    isplitl [Ht1]; · iexact Ht1
    isplitr; · iapply (reached_at m ρ K (c, .inr (.inl t))); iexact HR
    isplitl [Ht2]; · iexact Ht2
    iapply (reached_at m ρ K (nb (lane t) c, .inr (.inr t))); iexact HR
  iintro ⟨Hc, HO⟩
  iapply Hk
  isplitl [Hc Ha]
  · unfold flying
    isplitl [Hc] <;> iassumption
  iexists W; iexact HO

/-- The wait for a transfer to land: the landed rows, and the receive cell at zero. -/
theorem wp_recv {Q : α → sProp 𝕄} (c : Dev nD) (t : Tr) {ds : List Due} (hds : ∀ d ∈ ds, lvD (.inr t) < lvD d)
    {q : DmaSem sig} (hq : q = rcvS t) {s : Shape} {e : EltTy} {sp sp' : Space} {κ : Kind} {sr : Memref sig .tc sp' s e} {dst : Memref sig κ sp s e}
    {hsrc : sr.view.WordExact} {hdst : dst.view.WordExact} (hN : dst.view.dmaCredit = N t) {k : PUnit → Prog (TpuEff nD τ sig (Elt F) Λ₀ .tc) α} :
    records m ρ K ⊢ iprop(Owe c ds -∗ inbound c t
      -∗ ((Owe c ds ∗ rcvZ c t ∗ landed m ρ c t) -∗ run c (k ⟨⟩) Q) -∗ run c (.op (.waitDma2 q sr dst hsrc hdst) k) Q) := by
  subst hq
  unfold inbound rcvZ Owe
  rw [← hN]
  iintro #HR HO Hi Hk
  icases Hi with ⟨Hc, Ha⟩
  icases HO with ⟨%W, HO⟩
  iapply (Rounds.wp_wait_rest_token 𝒱₀ ER (Rd m ρ) (c : Thread nD τ) none (κ := K (c, .inr (.inr t)))
      (wpE_waitDma2_eq 𝒱₀ (c : Thread nD τ) none Set.univ) (Set.mem_univ _) () (O := dues c ds) (W := W) (R := 0) (m := 0) (T := ∅)
      (by rw [Nat.zero_add, expect_rcv, hN])) $$ [HO Hc Ha]
  · isplitr; · iapply (inv_at m ρ K (c, .inr (.inr t))); iexact HR
    isplitl [Hc]; · iexact Hc
    isplitl [HO]; · iexact HO
    isplitr
    · iapply (mayWait_at m ρ K c (.dma (rcvS t)) ds (fun d hd => lt_of_eq_of_lt (lv_rcv t) (hds d hd))); iexact HR
    iexact Ha
  iintro ⟨HO, Ha, -, Hpay⟩
  imod (Rounds.cell_close ER (Rd m ρ) (Set.mem_univ (K (c, .inr (.inr t)))) (fun h => h) (R := 0 + 1) (duties_later m ρ (rcvCell c t))) $$ [Ha] with Hz
  · isplitr; · iapply (inv_at m ρ K (c, .inr (.inr t))); iexact HR
    iexact Ha
  ihave Hp := (Entails.of_eq (rest_rcv m ρ c t)) $$ Hpay
  iapply Hk
  isplitl [HO]; · iexists _; iexact HO
  isplitl [Hz]; · iexact Hz
  iexact Hp

/-- The wait for a transfer to have left: the source rows back, and the send cell at zero. Nothing is owed any more. -/
theorem wp_sent {Q : α → sProp 𝕄} (c : Dev nD) (t : Tr) {q : DmaSem sig} (hq : q = sndS t) {s : Shape} {e : EltTy} {sp sp' : Space} {κ : Kind} {sr : Memref sig .tc sp' s e} {dst : Memref sig κ sp s e}
    {hsrc : sr.view.WordExact} {hdst : dst.view.WordExact} (hN : dst.view.dmaCredit = N t) {k : PUnit → Prog (TpuEff nD τ sig (Elt F) Λ₀ .tc) α} :
    records m ρ K ⊢ iprop(Owe c [] -∗ flying c t
      -∗ ((Owe c [] ∗ sndZ c t ∗ src m ρ c t) -∗ run c (k ⟨⟩) Q) -∗ run c (.op (.waitDma2 q sr dst hsrc hdst) k) Q) := by
  subst hq
  unfold flying sndZ Owe
  rw [← hN]
  iintro #HR HO Hi Hk
  icases Hi with ⟨Hc, Ha⟩
  icases HO with ⟨%W, HO⟩
  iapply (Rounds.wp_wait_rest_token 𝒱₀ ER (Rd m ρ) (c : Thread nD τ) none (κ := K (c, .inr (.inl t)))
      (wpE_waitDma2_eq 𝒱₀ (c : Thread nD τ) none Set.univ) (Set.mem_univ _) () (O := dues c []) (W := W) (R := 0) (m := 0) (T := ∅)
      (by rw [Nat.zero_add, expect_snd, hN])) $$ [HO Hc Ha]
  · isplitr; · iapply (inv_at m ρ K (c, .inr (.inl t))); iexact HR
    isplitl [Hc]; · iexact Hc
    isplitl [HO]; · iexact HO
    isplitr
    · iapply (mayWait_at m ρ K c (.dma (sndS t)) [] (fun d hd => absurd hd List.not_mem_nil)); iexact HR
    iexact Ha
  iintro ⟨HO, Ha, -, Hpay⟩
  imod (Rounds.cell_close ER (Rd m ρ) (Set.mem_univ (K (c, .inr (.inl t)))) (fun h => h) (R := 0 + 1) (duties_later m ρ (sndCell c t))) $$ [Ha] with Hz
  · isplitr; · iapply (inv_at m ρ K (c, .inr (.inl t))); iexact HR
    iexact Ha
  ihave Hp := (Entails.of_eq (rest_snd m ρ c t)) $$ Hpay
  iapply Hk
  isplitl [HO]; · iexists _; iexact HO
  isplitl [Hz]; · iexact Hz
  iexact Hp

/-! ## Additions -/

/-- The half of the device's own block that stays readable. -/
def xRead (c : Dev nD) : sProp 𝕄 := xPts c Finset.univ fullShare.right (xstg m ρ c)

/-- A load of rows of the device's own block. -/
theorem wp_ldx {Q : α → sProp 𝕄} (c : Dev nD) {r : Rect S8192x1024} {hl : xM.view.LoadsAt r} {k : (r.shape.Idx → Elt F .bf16) → Prog (TpuEff nD τ sig (Elt F) Λ₀ .tc) α} :
    xRead m ρ c ⊢ iprop((xRead m ρ c -∗ run c (k ((xM.access r).read (Elt F) (xstg m ρ c))) Q) -∗ run c (.op (.load xM r.toLoadRect hl) k) Q) :=
  wp_load_rect 𝒱₀ (c : Thread nD τ) none Set.univ (m := xM) (r := r) (Finset.subset_univ _)

/-- The rows a transfer landed on are loaded and added to those of `x`; the sum is stored. -/
theorem wp_add {Q : α → sProp 𝕄} (c : Dev nD) (t : Tr) {a : ℕ} (ha : a = len t) {off : Fin 2 → ℕ} (hoff : off = ![rlo c t, 0]) {inb} {q : PosShare TreeShare} {P : sProp 𝕄} (hP : P = bPts c (rband c t) q (got m ρ c))
    {pay : ((⟨2, ![a, 1024]⟩ : Shape).Idx → Elt F .bf16) → ((⟨2, ![a, 1024]⟩ : Shape).Idx → Elt F .bf16)}
    (hpay : pay ((bM.access (rows off a inb)).read (Elt F) (got m ρ c))
      = addf (F := F) (φ := .bf16) (s := ⟨2, ![a, 1024]⟩) ((xM.access (rows off a inb)).read (Elt F) (xstg m ρ c)) ((bM.access (rows off a inb)).read (Elt F) (got m ρ c)))
    {hl : bM.view.LoadsAt (rows off a inb)} {hl' : oM.view.LoadsAt (rows off a inb)} {hx : (oM.access (rows off a inb)).Stores Finset.univ}
    {hm : (Finset.univ : Finset (⟨2, ![a, 1024]⟩ : Shape).Idx) = Finset.univ ∨ ∀ i, (rows off a inb).stride i = 1} {k : PUnit → Prog (TpuEff nD τ sig (Elt F) Λ₀ .tc) α} :
    P ⊢ iprop(blank c t -∗ ((P ∗ summed m ρ c t) -∗ run c (k ⟨⟩) Q)
      -∗ run c (.op (.load bM (rows off a inb).toLoadRect hl) fun u => .op (.load oM (rows off a inb).toLoadRect hl') fun _ =>
          .op (.store oM (rows off a inb) (pay u) Finset.univ hx hm) k) Q) := by
  subst ha; subst hP
  have hset : (rows off (len t) inb).set = rband c t := rows_set hoff
  unfold blank summed
  iintro Hb Ho Hk
  icases Ho with ⟨%fo, Ho⟩
  unfold bPts oPts
  iapply (wp_load_rect 𝒱₀ (c : Thread nD τ) none Set.univ (m := bM) (r := rows off (len t) inb) (S := rband c t)
    (by rw [← hset]; exact le_of_eq (View.set_slice_whole _ _))) $$ Hb
  iintro Hb
  iapply (wp_load_rect 𝒱₀ (c : Thread nD τ) none Set.univ (m := oM) (r := rows off (len t) inb) (S := rband c t)
    (by rw [← hset]; exact le_of_eq (View.set_slice_whole _ _))) $$ Ho
  iintro Ho
  iapply (wp_store 𝒱₀ (c : Thread nD τ) none Set.univ (m := oM) (r := rows off (len t) inb) (Mk := Finset.univ) (S := rband c t)
    (by rw [← hset]; exact le_of_eq (View.set_slice_whole _ _))) $$ Ho
  iintro Ho
  iapply Hk
  isplitl [Hb]; · iexact Hb
  rw [hpay]
  ihave Ho := (Entails.of_eq (pointsTo_congr fun i hi => stored (rows off (len t) inb) fo (xstg m ρ c) (got m ρ c) i (hset.symm ▸ hi))) $$ Ho
  iexact Ho

end Cert.CubeSum

end
-- ==== Proof.Words.lean ====
/-
The rows and the devices that the program's own address arithmetic names: every row offset is the first row of the
transfer concerned, every device the partner along the transfer's lane.
-/
module

public import proofs.«01_k».proof.Proof.Rows

@[expose] public section

noncomputable section

namespace Cert.CubeSum

open Cert.KernelIdeal Cert.KernelIdeal.Gen
open Idealize.ShloMosaic
open Idealize.ShloMosaic.TcCoe

/-! ## Rows that transfers are sent from -/

/-- Transfers 0 to 3 of each lane start in the device's own quarter. -/
theorem from_own : ∀ (c : Dev nD) (t : Tr), t.val % 5 < 4 → k0_off1 c (BitVec.ofNat 32 (512 * (t.val % 5))) = ![lo c t, 0] := by decide +kernel
theorem from_x4 : ∀ c : Dev nD, k0_off2 c = ![lo c 4, 0] := by decide +kernel
theorem from_y4 : ∀ c : Dev nD, k0_off11 c = ![lo c 9, 0] := by decide +kernel
theorem from_z4 : ∀ c : Dev nD, k0_off9 c = ![lo c 14, 0] := by decide +kernel

/-! ## Rows that are added up after a transfer has landed on them -/

theorem at_own : ∀ (c : Dev nD) (t : Tr), t.val < 4 → k0_off3 c (BitVec.ofNat 32 (512 * (t.val % 5))) = ![rlo c t, 0] := by decide +kernel
theorem at_x4 : ∀ c : Dev nD, k0_off12 c = ![rlo c 4, 0] := by decide +kernel
theorem at_y0 : ∀ c : Dev nD, k0_off5 c = ![rlo c 5, 0] := by decide +kernel
theorem at_y : ∀ (c : Dev nD) (t : Tr), 5 < t.val → t.val < 9 → k0_off8 c (BitVec.ofNat 32 (512 * (t.val % 5))) = ![rlo c t, 0] := by decide +kernel
theorem at_y4 : ∀ c : Dev nD, k0_off14 c = ![rlo c 9, 0] := by decide +kernel
theorem at_z0 : ∀ c : Dev nD, k0_off7 c = ![rlo c 10, 0] := by decide +kernel
theorem at_z : ∀ (c : Dev nD) (t : Tr), 10 < t.val → t.val < 14 → k0_off10 c (BitVec.ofNat 32 (512 * (t.val % 5))) = ![rlo c t, 0] := by decide +kernel
theorem at_z4 : ∀ c : Dev nD, k0_off16 c = ![rlo c 14, 0] := by decide +kernel

/-! ## Devices -/

theorem sig_x : ∀ c : Dev nD, (⟨k0_dev1 c, k0_dev1_lt c⟩ : Dev nD) = nb 0 c := by decide +kernel
theorem sig_y : ∀ c : Dev nD, (⟨k0_dev2 c, k0_dev2_lt c⟩ : Dev nD) = nb 1 c := by decide +kernel
theorem sig_z : ∀ c : Dev nD, (⟨k0_dev3 c, k0_dev3_lt c⟩ : Dev nD) = nb 2 c := by decide +kernel
theorem to_x0 : ∀ c : Dev nD, (⟨k0_dev4 c, k0_dev4_lt c⟩ : Dev nD) = nb (lane 0) c := by decide +kernel
theorem to_x1 : ∀ c : Dev nD, (⟨k0_dev5 c, k0_dev5_lt c⟩ : Dev nD) = nb (lane 1) c := by decide +kernel
theorem to_x2 : ∀ c : Dev nD, (⟨k0_dev6 c, k0_dev6_lt c⟩ : Dev nD) = nb (lane 2) c := by decide +kernel
theorem to_x3 : ∀ c : Dev nD, (⟨k0_dev7 c, k0_dev7_lt c⟩ : Dev nD) = nb (lane 3) c := by decide +kernel
theorem to_x4 : ∀ c : Dev nD, (⟨k0_dev8 c, k0_dev8_lt c⟩ : Dev nD) = nb (lane 4) c := by decide +kernel
theorem to_y0 : ∀ c : Dev nD, (⟨k0_dev9 c, k0_dev9_lt c⟩ : Dev nD) = nb (lane 5) c := by decide +kernel
theorem to_z0 : ∀ c : Dev nD, (⟨k0_dev10 c, k0_dev10_lt c⟩ : Dev nD) = nb (lane 10) c := by decide +kernel
theorem to_y1 : ∀ c : Dev nD, (⟨k0_dev11 c, k0_dev11_lt c⟩ : Dev nD) = nb (lane 6) c := by decide +kernel
theorem to_z1 : ∀ c : Dev nD, (⟨k0_dev12 c, k0_dev12_lt c⟩ : Dev nD) = nb (lane 11) c := by decide +kernel
theorem to_y2 : ∀ c : Dev nD, (⟨k0_dev13 c, k0_dev13_lt c⟩ : Dev nD) = nb (lane 7) c := by decide +kernel
theorem to_z2 : ∀ c : Dev nD, (⟨k0_dev14 c, k0_dev14_lt c⟩ : Dev nD) = nb (lane 12) c := by decide +kernel
theorem to_z4 : ∀ c : Dev nD, (⟨k0_dev15 c, k0_dev15_lt c⟩ : Dev nD) = nb (lane 14) c := by decide +kernel
theorem to_y3 : ∀ c : Dev nD, (⟨k0_dev16 c, k0_dev16_lt c⟩ : Dev nD) = nb (lane 8) c := by decide +kernel
theorem to_z3 : ∀ c : Dev nD, (⟨k0_dev17 c, k0_dev17_lt c⟩ : Dev nD) = nb (lane 13) c := by decide +kernel
theorem to_y4 : ∀ c : Dev nD, (⟨k0_dev18 c, k0_dev18_lt c⟩ : Dev nD) = nb (lane 9) c := by decide +kernel

/-! ## How the source rows of the transfers lie in the rows landed on -/

/-- The rows of transfer `t` along `x` are those that the device's own transfer `t` along `x` lands on. -/
theorem lo_x : ∀ (c : Dev nD) (t : Tr), t.val < 5 → lo c t = rlo c t := by decide +kernel
/-- The rows sent on along `y` and along `z` are those landed on along `x`. -/
theorem lo_fwd : ∀ (c : Dev nD) (k : Fin 4), lo c ⟨5 + k.val, by omega⟩ = rlo c ⟨k.val, by omega⟩ ∧ lo c ⟨10 + k.val, by omega⟩ = rlo c ⟨k.val, by omega⟩ := by decide +kernel
/-- The last transfer along `z` starts at the rows landed on first along `y`, the last along `y` within those landed
    on second along `z`. -/
theorem lo_last : ∀ c : Dev nD, lo c 14 = rlo c 5 ∧ rlo c 6 = rlo c 5 + 512 ∧ lo c 9 = rlo c 11 + 176 ∧ rlo c 12 = rlo c 11 + 512 := by decide +kernel

end Cert.CubeSum

end
-- ==== Proof.Splits.lean ====
/-
How the rows a device holds are divided between the transfers that read them at the same time, and put together again.
-/
module

public import proofs.«01_k».proof.Proof.Steps
public import proofs.«01_k».proof.Proof.Words

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The quarter share of rows landed on along `x` that the device reads while it sends them on. -/
def keep (c : Dev nD) (t : Tr) : sProp 𝕄 := bPts c (rband c t) fullShare.right.right (got m ρ c)

/-- Rows landed on along `x` are shared between the transfer along `y`, the one along `z` and the device. -/
theorem share_out (c : Dev nD) {t u v : Tr} (ht : t.val < 4) (hu : u.val = 5 + t.val) (hv : v.val = 10 + t.val) :
    landed m ρ c t ⊣⊢ iprop(srcB m ρ c u ∗ srcB m ρ c v ∗ keep m ρ c t) := by
  have hu' : u = ⟨5 + t.val, by omega⟩ := Fin.ext hu
  have hv' : v = ⟨10 + t.val, by omega⟩ := Fin.ext hv
  have h1 : lo c u = rlo c t := hu' ▸ (lo_fwd c ⟨t.val, ht⟩).1
  have h2 : lo c v = rlo c t := hv' ▸ (lo_fwd c ⟨t.val, ht⟩).2
  have e1 : len u = len t := by unfold len; split_ifs <;> omega
  have e2 : len v = len t := by unfold len; split_ifs <;> omega
  have s1 : shr u = fullShare.left := by
    unfold shr; rw [if_neg (by omega), if_neg (by unfold lane; intro h; have h := congrArg Fin.val h; change u.val / 5 = 2 at h; omega)]
  have s2 : shr v = fullShare.right.left := by
    unfold shr; rw [if_neg (by omega), if_pos (by unfold lane; apply Fin.ext; show v.val / 5 = 2; omega)]
  unfold landed srcB keep
  rw [h1, h2, e1, e2, s1, s2]
  unfold bPts
  have a := pointsTo_share (PosShare.mem_left_op_right fullShare) (ℓ := ((c : Thread nD τ).loc cc0_scratch0 : Loc nD τ sig)) (I := rband c t) (f := (got m ρ c : Buf (Elt F) ((c : Thread nD τ).loc cc0_scratch0))) (Ix := Unit) (Name := ℕ) (U := UU) (Lvl := ℕ)
  have b := pointsTo_share (PosShare.mem_left_op_right fullShare.right) (ℓ := ((c : Thread nD τ).loc cc0_scratch0 : Loc nD τ sig)) (I := rband c t) (f := (got m ρ c : Buf (Elt F) ((c : Thread nD τ).loc cc0_scratch0))) (Ix := Unit) (Name := ℕ) (U := UU) (Lvl := ℕ)
  exact ⟨a.1.trans (sep_mono_right b.1), (sep_mono_right b.2).trans a.2⟩

omit [FloatOps F] in
/-- One band is two. -/
theorem bPts_append (c : Dev nD) (a n k b : ℕ) (q) (f) (hb : b = a + n) : (bPts c (band a (n + k)) q f : sProp 𝕄) ⊣⊢ iprop(bPts c (band a n) q f ∗ bPts c (band b k) q f) := by
  subst hb
  unfold bPts
  rw [← band_append]
  exact pointsTo_union (band_disjoint (Or.inl le_rfl))

/-- The rest of the rows landed on in transfers 5 and 6 besides those of transfer 14. -/
def restY (c : Dev nD) : sProp 𝕄 := bPts c (band (rlo c 5 + 688) 336) fullShare (got m ρ c)
/-- The rest of the rows landed on in transfers 11 and 12 besides those of transfer 9: before and after them. -/
def restZ (c : Dev nD) : sProp 𝕄 := iprop(bPts c (band (rlo c 11) 176) fullShare (got m ρ c) ∗ bPts c (band (rlo c 11 + 848) 176) fullShare (got m ρ c))

/-- The rows of the last transfer along `z` are taken from those landed on along `y` in transfers 5 and 6; -/
theorem cut_z (c : Dev nD) : iprop(landed m ρ c 5 ∗ landed m ρ c 6) ⊣⊢ iprop(srcB m ρ c 14 ∗ restY m ρ c) := by
  have h := lo_last c
  have s : shr 14 = fullShare := if_pos (Or.inr rfl)
  have e1 := bPts_append c (rlo c 5) 512 512 (rlo c 6) fullShare (got m ρ c) h.2.1
  have e2 := bPts_append c (rlo c 5) 688 336 (rlo c 5 + 688) fullShare (got m ρ c) rfl
  unfold landed srcB restY rband
  rw [s, h.1, show len 5 = 512 from rfl, show len 6 = 512 from rfl, show len 14 = 688 from rfl]
  exact ⟨e1.2.trans e2.1, e2.2.trans e1.1⟩

/-- those of the last along `y` from the rows landed on along `z` in transfers 11 and 12. -/
theorem cut_y (c : Dev nD) : iprop(landed m ρ c 11 ∗ landed m ρ c 12) ⊣⊢ iprop(srcB m ρ c 9 ∗ restZ m ρ c) := by
  have h := lo_last c
  have s : shr 9 = fullShare := if_pos (Or.inl rfl)
  have e1 := bPts_append c (rlo c 11) 512 512 (rlo c 12) fullShare (got m ρ c) h.2.2.2
  have e2 := bPts_append c (rlo c 11) 176 848 (lo c 9) fullShare (got m ρ c) h.2.2.1
  have e3 := bPts_append c (lo c 9) 672 176 (rlo c 11 + 848) fullShare (got m ρ c) (by rw [h.2.2.1])
  unfold landed srcB restZ rband
  rw [s, show len 11 = 512 from rfl, show len 12 = 512 from rfl, show len 9 = 672 from rfl]
  refine ⟨e1.2.trans (e2.1.trans ?_), .trans ?_ (e2.2.trans e1.1)⟩
  · iintro ⟨Ha, Hb⟩
    ihave Hb := e3.1 $$ Hb
    icases Hb with ⟨Hb, Hc⟩
    isplitl [Hb]; · iexact Hb
    isplitl [Ha] <;> iassumption
  · iintro ⟨Hb, Ha, Hc⟩
    isplitl [Ha]; · iexact Ha
    iapply e3.2
    isplitl [Hb] <;> iassumption

end Cert.CubeSum

end
-- ==== Proof.Joins.lean ====
/-
The buffers a device is given, divided into the rows of its fifteen transfers, and put together again at the end.
-/
module

public import proofs.«01_k».proof.Proof.Splits

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Something for each of the fifteen transfers, written out. -/
theorem each_tr (Φ : Tr → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- A whole buffer is the sum of disjoint sets of elements that cover it. -/
theorem whole_pieces {ℓ : Loc nD τ sig} {q : PosShare TreeShare} {f : Buf (Elt F) ℓ} (S : Tr → Finset (Idx ℓ))
    (hd : ∀ t t', t ≠ t' → Disjoint (S t) (S t')) (hc : ∀ i, ∃ t, i ∈ S t) :
    (ℓ ↦[Finset.univ]{q} f : sProp 𝕄) = bigSep Finset.univ fun t => ℓ ↦[S t]{q} f := by
  classical
  have e : (Finset.univ : Finset Tr).biUnion S = Finset.univ := by
    ext i; simp only [Finset.mem_biUnion, Finset.mem_univ, true_and, iff_true]; exact hc i
  rw [← pointsTo_biUnion Finset.univ S fun t _ t' _ h => hd t t' h]
  congr 1
  rw [← e]

theorem rband_each (c : Dev nD) (i : S8192x1024.Idx) : ∃ t, i ∈ rband c t := by
  have h : i ∈ (Finset.univ : Finset Tr).biUnion (rband c) := by rw [rband_cover]; exact Finset.mem_univ i
  obtain ⟨t, -, h⟩ := Finset.mem_biUnion.mp h
  exact ⟨t, h⟩
theorem rband_apart (c : Dev nD) (t t' : Tr) (h : t ≠ t') : Disjoint (rband c t) (rband c t') :=
  rband_disjoint c t (Finset.mem_univ _) t' (Finset.mem_univ _) h

omit [FloatOps F] in
/-- A whole buffer of a device is the fifteen bands its transfers land on. -/
theorem bPts_bands (c : Dev nD) (f) : (bPts c Finset.univ fullShare f : sProp 𝕄) = bigSep Finset.univ fun t => bPts c (rband c t) fullShare f :=
  whole_pieces (ℓ := (c : Thread nD τ).loc cc0_scratch0) (rband c) (rband_apart c) (rband_each c)
omit [FloatOps F] in
theorem oPts_bands (c : Dev nD) (f) : (oPts c Finset.univ f : sProp 𝕄) = bigSep Finset.univ fun t => oPts c (rband c t) f :=
  whole_pieces (ℓ := (c : Thread nD τ).loc cc0_stg1_0) (rband c) (rband_apart c) (rband_each c)
omit [FloatOps F] in
theorem xPts_bands (c : Dev nD) (q f) : (xPts c Finset.univ q f : sProp 𝕄) = bigSep Finset.univ fun t => xPts c (rband c t) q f :=
  whole_pieces (ℓ := (c : Thread nD τ).loc cc0_stg0_0) (rband c) (rband_apart c) (rband_each c)

omit [FloatOps F] in
/-- The scratch buffer at launch, given away to the three partners. -/
theorem give (c : Dev nD) (f) : (bPts c Finset.univ fullShare f : sProp 𝕄) ⊢ iprop(barPay (nb 0 c) 0 ∗ barPay (nb 1 c) 1 ∗ barPay (nb 2 c) 2) := by
  have h (t : Tr) : (bPts c (rband c t) fullShare f : sProp 𝕄) ⊢ hole (nb (lane t) c) t := by
    rw [hole_own]; iintro H; iexists f; iexact H
  rw [bPts_bands]
  refine (bigSep_mono fun t _ => h t).trans ?_
  rw [each_tr]
  show iprop(hole (nb 0 c) 0 ∗ hole (nb 0 c) 1 ∗ hole (nb 0 c) 2 ∗ hole (nb 0 c) 3 ∗ hole (nb 0 c) 4
      ∗ hole (nb 1 c) 5 ∗ hole (nb 1 c) 6 ∗ hole (nb 1 c) 7 ∗ hole (nb 1 c) 8 ∗ hole (nb 1 c) 9
      ∗ hole (nb 2 c) 10 ∗ hole (nb 2 c) 11 ∗ hole (nb 2 c) 12 ∗ hole (nb 2 c) 13 ∗ hole (nb 2 c) 14)
    ⊢ (iprop((hole (nb 0 c) 0 ∗ hole (nb 0 c) 1 ∗ hole (nb 0 c) 2 ∗ hole (nb 0 c) 3 ∗ hole (nb 0 c) 4)
      ∗ (hole (nb 1 c) 5 ∗ hole (nb 1 c) 6 ∗ hole (nb 1 c) 7 ∗ hole (nb 1 c) 8 ∗ hole (nb 1 c) 9)
      ∗ (hole (nb 2 c) 10 ∗ hole (nb 2 c) 11 ∗ hole (nb 2 c) 12 ∗ hole (nb 2 c) 13 ∗ hole (nb 2 c) 14)) : sProp 𝕄)
  iintro ⟨H0, H1, H2, H3, H4, H5, H6, H7, H8, H9, Hz⟩
  isplitl [H0 H1 H2 H3 H4]
  · isplitl [H0]; · iexact H0
    isplitl [H1]; · iexact H1
    isplitl [H2]; · iexact H2
    isplitl [H3]; · iexact H3
    iexact H4
  isplitl [H5 H6 H7 H8 H9]
  · isplitl [H5]; · iexact H5
    isplitl [H6]; · iexact H6
    isplitl [H7]; · iexact H7
    isplitl [H8]; · iexact H8
    iexact H9
  iexact Hz

omit [FloatOps F] in
/-- The result buffer at launch, band by band. -/
theorem blanks (c : Dev nD) (f) : (oPts c Finset.univ f : sProp 𝕄) ⊢ bigSep Finset.univ fun t => blank c t := by
  have h (t : Tr) : (oPts c (rband c t) f : sProp 𝕄) ⊢ blank c t := by
    unfold blank; iintro H; iexists f; iexact H
  rw [oPts_bands]
  exact bigSep_mono fun t _ => h t

/-- What a device keeps of its own block beside the half it reads and the rows it sends. -/
def xAside (c : Dev nD) : sProp 𝕄 :=
  iprop(xPts c (rband c 5) fullShare.left (xstg m ρ c) ∗ xPts c (rband c 6) fullShare.left (xstg m ρ c) ∗ xPts c (rband c 7) fullShare.left (xstg m ρ c)
    ∗ xPts c (rband c 8) fullShare.left (xstg m ρ c) ∗ xPts c (rband c 9) fullShare.left (xstg m ρ c) ∗ xPts c (rband c 10) fullShare.left (xstg m ρ c)
    ∗ xPts c (rband c 11) fullShare.left (xstg m ρ c) ∗ xPts c (rband c 12) fullShare.left (xstg m ρ c) ∗ xPts c (rband c 13) fullShare.left (xstg m ρ c)
    ∗ xPts c (rband c 14) fullShare.left (xstg m ρ c))

/-- The device's own block: the half it reads, the rows of the transfers along `x`, and the rest. -/
theorem cut_x (c : Dev nD) : xPts c Finset.univ fullShare (xstg m ρ c)
    ⊣⊢ iprop(xRead m ρ c ∗ srcX m ρ c 0 ∗ srcX m ρ c 1 ∗ srcX m ρ c 2 ∗ srcX m ρ c 3 ∗ srcX m ρ c 4 ∗ xAside m ρ c) := by
  have e (t : Tr) (ht : t.val < 5) : xPts c (rband c t) fullShare.left (xstg m ρ c) = srcX m ρ c t := by
    have s : shr t = fullShare.left := by
      unfold shr; rw [if_neg (by omega), if_neg (by unfold lane; intro h; have h := congrArg Fin.val h; change t.val / 5 = 2 at h; omega)]
    unfold srcX; rw [lo_x c t ht, s]
  have a : xPts c Finset.univ fullShare (xstg m ρ c) ⊣⊢ iprop(xPts c Finset.univ fullShare.left (xstg m ρ c) ∗ xRead m ρ c) := by
    unfold xRead xPts
    exact pointsTo_share (PosShare.mem_left_op_right fullShare)
  have b : xPts c Finset.univ fullShare.left (xstg m ρ c)
      = iprop(srcX m ρ c 0 ∗ srcX m ρ c 1 ∗ srcX m ρ c 2 ∗ srcX m ρ c 3 ∗ srcX m ρ c 4 ∗ xAside m ρ c) := by
    rw [xPts_bands, each_tr, e 0 (by decide), e 1 (by decide), e 2 (by decide), e 3 (by decide), e 4 (by decide)]
    rfl
  rw [b] at a
  refine ⟨a.1.trans ?_, .trans ?_ a.2⟩
  · iintro ⟨H1, H2⟩
    isplitl [H2] <;> iassumption
  · iintro ⟨H1, H2⟩
    isplitl [H2] <;> iassumption

/-- A source that comes back from a transfer along `x`, or along `y` or `z`. -/
theorem src_x (c : Dev nD) (t : Tr) (ht : lane t = 0) : src m ρ c t ⊢ srcX m ρ c t := by
  unfold src; rw [if_pos ht]
theorem src_yz (c : Dev nD) (t : Tr) (ht : lane t ≠ 0) : src m ρ c t ⊢ srcB m ρ c t := by
  unfold src; rw [if_neg ht]

end Cert.CubeSum

end
-- ==== Proof.Payloads.lean ====
/-
The values the program stores: each is the sum of the rows loaded from the device's own block and those loaded from its
scratch buffer.
-/
module

public import proofs.«01_k».proof.Proof.Splits

@[expose] public section

noncomputable section

namespace Cert.CubeSum

open Cert.KernelIdeal Cert.KernelIdeal.Gen
open Idealize.ShloMosaic
open Idealize.ShloMosaic.TcCoe

variable {F : FTy → Type} [FloatOps F]

/-- A vector cast to its own shape is itself. -/
theorem cast_self {s : Shape} (v : Vec F s .bf16) (h : s.ShapeCasts s) : shapeCast s v h = v := by
  funext i; simp [shapeCast, Shape.reshapeEquiv_self]

theorem pay3 (v w : Vec F S512x1024 .bf16) : k0_pay3 v w = addf (F := F) (φ := .bf16) (s := S512x1024) v w := by unfold k0_pay3; dsimp only; rw [cast_self]
theorem pay4 (v w : Vec F S512x1024 .bf16) : k0_pay4 v w = addf (F := F) (φ := .bf16) (s := S512x1024) v w := by unfold k0_pay4; dsimp only; rw [cast_self]
theorem pay5 (v w : Vec F S512x1024 .bf16) : k0_pay5 v w = addf (F := F) (φ := .bf16) (s := S512x1024) v w := by unfold k0_pay5; dsimp only; rw [cast_self]
theorem pay6 (v w : Vec F S512x1024 .bf16) : k0_pay6 v w = addf (F := F) (φ := .bf16) (s := S512x1024) v w := by unfold k0_pay6; dsimp only; rw [cast_self]
theorem pay7 (v w : Vec F S512x1024 .bf16) : k0_pay7 v w = addf (F := F) (φ := .bf16) (s := S512x1024) v w := by unfold k0_pay7; dsimp only; rw [cast_self]
theorem pay10 (v w : Vec F S512x1024 .bf16) : k0_pay10 v w = addf (F := F) (φ := .bf16) (s := S512x1024) v w := by unfold k0_pay10; dsimp only; rw [cast_self]
theorem pay11 (v w : Vec F S512x1024 .bf16) : k0_pay11 v w = addf (F := F) (φ := .bf16) (s := S512x1024) v w := by unfold k0_pay11; dsimp only; rw [cast_self]
theorem pay12 (v w : Vec F S512x1024 .bf16) : k0_pay12 v w = addf (F := F) (φ := .bf16) (s := S512x1024) v w := by unfold k0_pay12; dsimp only; rw [cast_self]
theorem pay13 (v w : Vec F S688x1024 .bf16) : k0_pay13 v w = addf (F := F) (φ := .bf16) (s := S688x1024) v w := by unfold k0_pay13; dsimp only; rw [cast_self]
theorem pay14 (v w : Vec F S512x1024 .bf16) : k0_pay14 v w = addf (F := F) (φ := .bf16) (s := S512x1024) v w := by unfold k0_pay14; dsimp only; rw [cast_self]
theorem pay15 (v w : Vec F S512x1024 .bf16) : k0_pay15 v w = addf (F := F) (φ := .bf16) (s := S512x1024) v w := by unfold k0_pay15; dsimp only; rw [cast_self]
theorem pay18 (v w : Vec F S688x1024 .bf16) : k0_pay18 v w = addf (F := F) (φ := .bf16) (s := S688x1024) v w := by unfold k0_pay18; dsimp only; rw [cast_self]
theorem pay2 (v w : Vec F S512x1024 .bf16) : k0_pay2 (k0_pay1 v) w = addf (F := F) (φ := .bf16) (s := S512x1024) v w := by unfold k0_pay2 k0_pay1; dsimp only; rw [cast_self]
theorem pay9 (v w : Vec F S512x1024 .bf16) : k0_pay9 (k0_pay8 v) w = addf (F := F) (φ := .bf16) (s := S512x1024) v w := by unfold k0_pay9 k0_pay8; dsimp only; rw [cast_self]
theorem pay17 (v w : Vec F S672x1024 .bf16) : k0_pay17 (k0_pay16 v) w = addf (F := F) (φ := .bf16) (s := S672x1024) v w := by unfold k0_pay17 k0_pay16; dsimp only; rw [cast_self]
end Cert.CubeSum

end
-- ==== Proof.PartsA.lean ====
/-
The first parts of the program: the barrier, the transfers along `x`, and the first bands sent on along `y` and `z`.
-/
module

public import proofs.«01_k».proof.Proof.Payloads

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ci → ℕ)
variable (h0 : xM.IsWhole) (h1 : oM.IsWhole) (h2 : bM.IsWhole)

/-- The three signals and the wait for the partners' three. -/
theorem part2 (c : Dev nD) (v2 v5 v8 v11 v14 v17 v20 : BitVec 32) {Q : PUnit → sProp 𝕄} :
    records m ρ K ⊢ iprop(Owe c allDues
      -∗ (dutyTok ER (barCell (nb 0 c)) 0 0 ∗ dutyTok ER (barCell (nb 1 c)) 0 1 ∗ dutyTok ER (barCell (nb 2 c)) 0 2)
      -∗ (barPay (nb 0 c) 0 ∗ barPay (nb 1 c) 1 ∗ barPay (nb 2 c) 2)
      -∗ (cred (tallyAt (barCell c) () 3) ∗ atPos ER (barCell c) 0 ∅ 0)
      -∗ ((Owe c owed15 ∗ semVal (barCell c) 0 ∗ barPay c 0 ∗ barPay c 1 ∗ barPay c 2) -∗ Q ⟨⟩)
      -∗ run c (k0_part2 xM h0 oM h1 bM h2 cc0_scratch1 cc0_scratch2 cc0_scratch3 cc0_scratch4 cc0_scratch5 cc0_scratch6 c v2 v5 v8 v11 v14 v17 v20) Q) := by
  simp only [k0_part2_eq_skeleton]; unfold k0_part2_skel
  simp only [semSignalWord, semWaitWord, Prog.lift, Prog.bind_op, Prog.bind_ret, Prog.pure_eq_ret]
  iintro #HR HO ⟨Ht0, Ht1, Ht2⟩ ⟨Hp0, Hp1, Hp2⟩ ⟨Hc, Ha⟩ Hk
  iapply (wp_bar m ρ K c 0 (sig_x c) (by decide)) $$ HR HO Ht0 Hp0
  iintro HO
  iapply (wp_bar m ρ K c 1 (sig_y c) (by decide)) $$ HR HO Ht1 Hp1
  iintro HO
  iapply (wp_bar m ρ K c 2 (sig_z c) (by decide)) $$ HR HO Ht2 Hp2
  iintro HO
  iapply (wp_barWait m ρ K c (by decide) (by decide)) $$ HR HO Hc Ha
  iintro ⟨HO, Hz, Hh0, Hh1, Hh2⟩
  rw [run, wp_ret]; imodintro
  iapply Hk
  isplitl [HO]; · iexact HO
  isplitl [Hz]; · iexact Hz
  isplitl [Hh0]; · iexact Hh0
  isplitl [Hh1] <;> iassumption

/-- Transfers 0 to 2, along `x`, start. -/
theorem part3 (c : Dev nD) (v5 v8 v11 v20 : BitVec 32) {Q : (BitVec 32) → sProp 𝕄} :
    records m ρ K ⊢ iprop(Owe c owed15 -∗ srcX m ρ c 0 -∗ hole c 0 -∗ ship c 0 -∗ srcX m ρ c 1 -∗ hole c 1 -∗ ship c 1 -∗ srcX m ρ c 2 -∗ hole c 2 -∗ ship c 2
      -∗ (∀ v, (Owe c owed12 ∗ flying c 0 ∗ flying c 1 ∗ flying c 2) -∗ Q v)
      -∗ run c (k0_part3 xM h0 oM h1 bM h2 cc0_scratch1 cc0_scratch2 cc0_scratch3 cc0_scratch4 cc0_scratch5 cc0_scratch6 c v5 v8 v11 v20) Q) := by
  simp only [k0_part3_eq_skeleton]; unfold k0_part3_skel
  simp only [Prog.lift, Prog.bind_op, Prog.bind_ret, Prog.pure_eq_ret]
  iintro #HR HO Hs0 Hh0 Ht0 Hs1 Hh1 Ht1 Hs2 Hh2 Ht2 Hk
  iapply (wp_sendX m ρ K c 0 rfl (to_x0 c) (a := 512) rfl (from_own c 0 (by decide)) rfl rfl) $$ HR HO Hs0 Hh0 Ht0
  iintro ⟨Hf0, HO⟩
  iapply (wp_sendX m ρ K c 1 rfl (to_x1 c) (a := 512) rfl (from_own c 1 (by decide)) rfl rfl) $$ HR HO Hs1 Hh1 Ht1
  iintro ⟨Hf1, HO⟩
  iapply (wp_sendX m ρ K c 2 rfl (to_x2 c) (a := 512) rfl (from_own c 2 (by decide)) rfl rfl) $$ HR HO Hs2 Hh2 Ht2
  iintro ⟨Hf2, HO⟩
  rw [run, wp_ret]; imodintro
  iapply Hk
  isplitl [HO]; · iexact HO
  isplitl [Hf0]; · iexact Hf0
  isplitl [Hf1]; · iexact Hf1
  iexact Hf2

/-- Transfers 3 and 4, along `x`, start. -/
theorem part4 (c : Dev nD) (v5 v8 v11 v24 v28 v33 v96 : BitVec 32) {Q : (Σ' (v128 : BitVec 32), BitVec 32) → sProp 𝕄} :
    records m ρ K ⊢ iprop(Owe c owed12 -∗ srcX m ρ c 3 -∗ hole c 3 -∗ ship c 3 -∗ srcX m ρ c 4 -∗ hole c 4 -∗ ship c 4
      -∗ (∀ v, (Owe c owed10 ∗ flying c 3 ∗ flying c 4) -∗ Q v)
      -∗ run c (k0_part4 xM h0 oM h1 bM h2 cc0_scratch1 cc0_scratch2 cc0_scratch3 cc0_scratch4 cc0_scratch5 cc0_scratch6 c v5 v8 v11 v24 v28 v33 v96) Q) := by
  simp only [k0_part4_eq_skeleton]; unfold k0_part4_skel
  simp only [Prog.lift, Prog.bind_op, Prog.bind_ret, Prog.pure_eq_ret]
  iintro #HR HO Hs3 Hh3 Ht3 Hs4 Hh4 Ht4 Hk
  iapply (wp_sendX m ρ K c 3 rfl (to_x3 c) (a := 512) rfl (from_own c 3 (by decide)) rfl rfl) $$ HR HO Hs3 Hh3 Ht3
  iintro ⟨Hf3, HO⟩
  iapply (wp_sendX m ρ K c 4 rfl (to_x4 c) (a := 688) rfl (from_x4 c) rfl rfl) $$ HR HO Hs4 Hh4 Ht4
  iintro ⟨Hf4, HO⟩
  rw [run, wp_ret]; imodintro
  iapply Hk
  isplitl [HO]; · iexact HO
  isplitl [Hf3]; · iexact Hf3
  iexact Hf4

/-- What transfer 0 brought is sent on along `y` and `z`; the same rows of the own block are loaded. -/
theorem part5 (c : Dev nD) (v2 v5 v8 v14 v17 v20 v128 c4_i32_87 : BitVec 32) {Q : (Σ' (v137 : BitVec 32), FVec F S512x1024 .bf16) → sProp 𝕄} :
    records m ρ K ⊢ iprop(Owe c owed10 -∗ inbound c 0 -∗ hole c 5 -∗ ship c 5 -∗ hole c 10 -∗ ship c 10 -∗ xRead m ρ c
      -∗ (∀ v, (Owe c owed8 ∗ rcvZ c 0 ∗ keep m ρ c 0 ∗ flying c 5 ∗ flying c 10 ∗ xRead m ρ c) -∗ Q ⟨v, k0_pay1 ((xM.access (rows (k0_off3 c 0#32) 512 (k0_off3_inb c 0))).read (Elt F) (xstg m ρ c))⟩)
      -∗ run c (k0_part5 xM h0 oM h1 bM h2 cc0_scratch1 cc0_scratch2 cc0_scratch3 cc0_scratch4 cc0_scratch5 cc0_scratch6 c v2 v5 v8 v14 v17 v20 v128 c4_i32_87) Q) := by
  simp only [k0_part5_eq_skeleton]; unfold k0_part5_skel
  simp only [Prog.lift, Prog.bind_op, Prog.bind_ret, Prog.pure_eq_ret]
  iintro #HR HO Hi0 Hh5 Ht5 Hh10 Ht10 Hx Hk
  iapply (wp_recv m ρ K c 0 (by decide) rfl (N_eq 0 _)) $$ HR HO Hi0
  iintro ⟨HO, Hz0, Hl0⟩
  ihave Hl0 := (share_out m ρ c (u := 5) (v := 10) (by decide) rfl rfl).1 $$ Hl0
  icases Hl0 with ⟨Hs5, Hs10, Hl0⟩
  iapply (wp_sendB m ρ K c 5 (by decide) (to_y0 c) (a := 512) rfl (from_own c 5 (by decide)) rfl rfl) $$ HR HO Hs5 Hh5 Ht5
  iintro ⟨Hf5, HO⟩
  iapply (wp_sendB m ρ K c 10 (by decide) (to_z0 c) (a := 512) rfl (from_own c 10 (by decide)) rfl rfl) $$ HR HO Hs10 Hh10 Ht10
  iintro ⟨Hf10, HO⟩
  iapply (wp_ldx m ρ c) $$ Hx
  iintro Hx
  rw [run, wp_ret]; imodintro
  iapply Hk
  isplitl [HO]; · iexact HO
  isplitl [Hz0]; · iexact Hz0
  isplitl [Hl0]; · iexact Hl0
  isplitl [Hf5]; · iexact Hf5
  isplitl [Hf10]; · iexact Hf10
  iexact Hx

/-- Transfer 0 is added up; what transfer 1 brought is sent on along `y`. -/
theorem part6 (c : Dev nD) (v2 v5 v8 v11 v14 v20 v137 : BitVec 32) {Q : (Σ' (v180 : BitVec 32) (v196 : BitVec 32), BitVec 32) → sProp 𝕄} :
    records m ρ K ⊢ iprop(Owe c owed8 -∗ keep m ρ c 0 -∗ blank c 0 -∗ inbound c 1 -∗ hole c 6 -∗ ship c 6
      -∗ (∀ v, (Owe c owed7 ∗ keep m ρ c 0 ∗ summed m ρ c 0 ∗ rcvZ c 1 ∗ srcB m ρ c 11 ∗ keep m ρ c 1 ∗ flying c 6) -∗ Q v)
      -∗ run c (k0_part6 xM h0 oM h1 bM h2 cc0_scratch1 cc0_scratch2 cc0_scratch3 cc0_scratch4 cc0_scratch5 cc0_scratch6 c v2 v5 v8 v11 v14 v20 v137 (k0_pay1 ((xM.access (rows (k0_off3 c 0#32) 512 (k0_off3_inb c 0))).read (Elt F) (xstg m ρ c)))) Q) := by
  simp only [k0_part6_eq_skeleton]; unfold k0_part6_skel
  simp only [Prog.lift, Prog.bind_op, Prog.bind_ret, Prog.pure_eq_ret]
  iintro #HR HO Hl0 Hb0 Hi1 Hh6 Ht6 Hk
  iapply (wp_add m ρ c 0 (a := 512) rfl (at_own c 0 (by decide)) (P := keep m ρ c 0) rfl (pay2 _ _)) $$ Hl0 Hb0
  iintro ⟨Hl0, Hm0⟩
  iapply (wp_recv m ρ K c 1 (by decide) rfl (N_eq 1 _)) $$ HR HO Hi1
  iintro ⟨HO, Hz1, Hl1⟩
  ihave Hl1 := (share_out m ρ c (u := 6) (v := 11) (by decide) rfl rfl).1 $$ Hl1
  icases Hl1 with ⟨Hs6, Hs11, Hl1⟩
  iapply (wp_sendB m ρ K c 6 (by decide) (to_y1 c) (a := 512) rfl (from_own c 6 (by decide)) rfl rfl) $$ HR HO Hs6 Hh6 Ht6
  iintro ⟨Hf6, HO⟩
  rw [run, wp_ret]; imodintro
  iapply Hk
  isplitl [HO]; · iexact HO
  isplitl [Hl0]; · iexact Hl0
  isplitl [Hm0]; · iexact Hm0
  isplitl [Hz1]; · iexact Hz1
  isplitl [Hs11]; · iexact Hs11
  isplitl [Hl1]; · iexact Hl1
  iexact Hf6

/-- What transfer 1 brought is sent on along `z`; transfers 1 and 5 are added up. -/
theorem part7 (c : Dev nD) (v2 v8 v14 v17 v24 v180 v196 c1_i32_132 : BitVec 32) {Q : (BitVec 32) → sProp 𝕄} :
    records m ρ K ⊢ iprop(Owe c owed7 -∗ srcB m ρ c 11 -∗ hole c 11 -∗ ship c 11 -∗ xRead m ρ c -∗ keep m ρ c 1 -∗ blank c 1 -∗ inbound c 5 -∗ blank c 5
      -∗ (∀ v, (Owe c owed6 ∗ flying c 11 ∗ keep m ρ c 1 ∗ summed m ρ c 1 ∗ rcvZ c 5 ∗ xRead m ρ c ∗ landed m ρ c 5 ∗ summed m ρ c 5) -∗ Q v)
      -∗ run c (k0_part7 xM h0 oM h1 bM h2 cc0_scratch1 cc0_scratch2 cc0_scratch3 cc0_scratch4 cc0_scratch5 cc0_scratch6 c v2 v8 v14 v17 v24 v180 v196 c1_i32_132) Q) := by
  simp only [k0_part7_eq_skeleton]; unfold k0_part7_skel
  simp only [Prog.lift, Prog.bind_op, Prog.bind_ret, Prog.pure_eq_ret]
  iintro #HR HO Hs11 Hh11 Ht11 Hx Hl1 Hb1 Hi5 Hb5 Hk
  iapply (wp_sendB m ρ K c 11 (by decide) (to_z1 c) (a := 512) rfl (from_own c 11 (by decide)) rfl rfl) $$ HR HO Hs11 Hh11 Ht11
  iintro ⟨Hf11, HO⟩
  iapply (wp_ldx m ρ c) $$ Hx
  iintro Hx
  iapply (wp_add m ρ c 1 (a := 512) rfl (at_own c 1 (by decide)) (P := keep m ρ c 1) rfl (pay3 _ _)) $$ Hl1 Hb1
  iintro ⟨Hl1, Hm1⟩
  iapply (wp_recv m ρ K c 5 (by decide) rfl (N_eq 5 _)) $$ HR HO Hi5
  iintro ⟨HO, Hz5, Hl5⟩
  iapply (wp_ldx m ρ c) $$ Hx
  iintro Hx
  iapply (wp_add m ρ c 5 (a := 512) rfl (at_y0 c) (P := landed m ρ c 5) rfl (pay4 _ _)) $$ Hl5 Hb5
  iintro ⟨Hl5, Hm5⟩
  rw [run, wp_ret]; imodintro
  iapply Hk
  isplitl [HO]; · iexact HO
  isplitl [Hf11]; · iexact Hf11
  isplitl [Hl1]; · iexact Hl1
  isplitl [Hm1]; · iexact Hm1
  isplitl [Hz5]; · iexact Hz5
  isplitl [Hx]; · iexact Hx
  isplitl [Hl5]; · iexact Hl5
  iexact Hm5

end Cert.CubeSum

end
-- ==== Proof.PartsB.lean ====
/-
The middle parts of the program: what landed along `x` is sent on, what landed along `y` and `z` is added up.
-/
module

public import proofs.«01_k».proof.Proof.Payloads

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ci → ℕ)
variable (h0 : xM.IsWhole) (h1 : oM.IsWhole) (h2 : bM.IsWhole)

/-- Transfer 10 is added up; transfer 2 lands. -/
theorem part8 (c : Dev nD) (v2 v5 v8 v11 v14 v17 v20 v28 v232 : BitVec 32) {Q : (BitVec 32) → sProp 𝕄} :
    records m ρ K ⊢ iprop(Owe c owed6 -∗ inbound c 10 -∗ xRead m ρ c -∗ blank c 10 -∗ inbound c 2
      -∗ (∀ v, (Owe c owed6 ∗ rcvZ c 10 ∗ xRead m ρ c ∗ landed m ρ c 10 ∗ summed m ρ c 10 ∗ rcvZ c 2 ∗ landed m ρ c 2) -∗ Q v)
      -∗ run c (k0_part8 xM h0 oM h1 bM h2 cc0_scratch1 cc0_scratch2 cc0_scratch3 cc0_scratch4 cc0_scratch5 cc0_scratch6 c v2 v5 v8 v11 v14 v17 v20 v28 v232) Q) := by
  simp only [k0_part8_eq_skeleton]; unfold k0_part8_skel
  simp only [Prog.lift, Prog.bind_op, Prog.bind_ret, Prog.pure_eq_ret]
  iintro #HR HO Hi10 Hx Hb10 Hi2 Hk
  iapply (wp_recv m ρ K c 10 (by decide) rfl (N_eq 10 _)) $$ HR HO Hi10
  iintro ⟨HO, Hz10, Hl10⟩
  iapply (wp_ldx m ρ c) $$ Hx
  iintro Hx
  iapply (wp_add m ρ c 10 (a := 512) rfl (at_z0 c) (P := landed m ρ c 10) rfl (pay5 _ _)) $$ Hl10 Hb10
  iintro ⟨Hl10, Hm10⟩
  iapply (wp_recv m ρ K c 2 (by decide) rfl (N_eq 2 _)) $$ HR HO Hi2
  iintro ⟨HO, Hz2, Hl2⟩
  rw [run, wp_ret]; imodintro
  iapply Hk
  isplitl [HO]; · iexact HO
  isplitl [Hz10]; · iexact Hz10
  isplitl [Hx]; · iexact Hx
  isplitl [Hl10]; · iexact Hl10
  isplitl [Hm10]; · iexact Hm10
  isplitl [Hz2]; · iexact Hz2
  iexact Hl2

/-- What transfer 2 brought is sent on along `y` and `z`, and added up; transfer 6 lands. -/
theorem part9 (c : Dev nD) (v2 v5 v8 v14 v17 v259 : BitVec 32) {Q : (BitVec 32) → sProp 𝕄} :
    records m ρ K ⊢ iprop(Owe c owed6 -∗ landed m ρ c 2 -∗ hole c 7 -∗ ship c 7 -∗ hole c 12 -∗ ship c 12 -∗ xRead m ρ c -∗ blank c 2 -∗ inbound c 6
      -∗ (∀ v, (Owe c owed4 ∗ flying c 7 ∗ flying c 12 ∗ xRead m ρ c ∗ keep m ρ c 2 ∗ summed m ρ c 2 ∗ rcvZ c 6 ∗ landed m ρ c 6) -∗ Q v)
      -∗ run c (k0_part9 xM h0 oM h1 bM h2 cc0_scratch1 cc0_scratch2 cc0_scratch3 cc0_scratch4 cc0_scratch5 cc0_scratch6 c v2 v5 v8 v14 v17 v259) Q) := by
  simp only [k0_part9_eq_skeleton]; unfold k0_part9_skel
  simp only [Prog.lift, Prog.bind_op, Prog.bind_ret, Prog.pure_eq_ret]
  iintro #HR HO Hl2 Hh7 Ht7 Hh12 Ht12 Hx Hb2 Hi6 Hk
  ihave Hl2 := (share_out m ρ c (u := 7) (v := 12) (by decide) rfl rfl).1 $$ Hl2
  icases Hl2 with ⟨Hs7, Hs12, Hl2⟩
  iapply (wp_sendB m ρ K c 7 (by decide) (to_y2 c) (a := 512) rfl (from_own c 7 (by decide)) rfl rfl) $$ HR HO Hs7 Hh7 Ht7
  iintro ⟨Hf7, HO⟩
  iapply (wp_sendB m ρ K c 12 (by decide) (to_z2 c) (a := 512) rfl (from_own c 12 (by decide)) rfl rfl) $$ HR HO Hs12 Hh12 Ht12
  iintro ⟨Hf12, HO⟩
  iapply (wp_ldx m ρ c) $$ Hx
  iintro Hx
  iapply (wp_add m ρ c 2 (a := 512) rfl (at_own c 2 (by decide)) (P := keep m ρ c 2) rfl (pay6 _ _)) $$ Hl2 Hb2
  iintro ⟨Hl2, Hm2⟩
  iapply (wp_recv m ρ K c 6 (by decide) rfl (N_eq 6 _)) $$ HR HO Hi6
  iintro ⟨HO, Hz6, Hl6⟩
  rw [run, wp_ret]; imodintro
  iapply Hk
  isplitl [HO]; · iexact HO
  isplitl [Hf7]; · iexact Hf7
  isplitl [Hf12]; · iexact Hf12
  isplitl [Hx]; · iexact Hx
  isplitl [Hl2]; · iexact Hl2
  isplitl [Hm2]; · iexact Hm2
  isplitl [Hz6]; · iexact Hz6
  iexact Hl6

/-- Transfer 6 is added up; the last transfer along `z` starts; transfer 11 lands, and the same rows of the own block are loaded. -/
theorem part10 (c : Dev nD) (v2 v5 v17 v24 v28 c512_i32_196 : BitVec 32) {Q : (Σ' (v333 : BitVec 32), FVec F S512x1024 .bf16) → sProp 𝕄} :
    records m ρ K ⊢ iprop(Owe c owed4 -∗ xRead m ρ c -∗ landed m ρ c 6 -∗ blank c 6 -∗ landed m ρ c 5 -∗ hole c 14 -∗ ship c 14 -∗ inbound c 11
      -∗ (∀ v, (Owe c owed3 ∗ summed m ρ c 6 ∗ restY m ρ c ∗ flying c 14 ∗ rcvZ c 11 ∗ landed m ρ c 11 ∗ xRead m ρ c) -∗ Q ⟨v, k0_pay8 ((xM.access (rows (k0_off10 c 512#32) 512 (k0_off10_inb c 0))).read (Elt F) (xstg m ρ c))⟩)
      -∗ run c (k0_part10 xM h0 oM h1 bM h2 cc0_scratch1 cc0_scratch2 cc0_scratch3 cc0_scratch4 cc0_scratch5 cc0_scratch6 c v2 v5 v17 v24 v28 c512_i32_196) Q) := by
  simp only [k0_part10_eq_skeleton]; unfold k0_part10_skel
  simp only [Prog.lift, Prog.bind_op, Prog.bind_ret, Prog.pure_eq_ret]
  iintro #HR HO Hx Hl6 Hb6 Hl5 Hh14 Ht14 Hi11 Hk
  iapply (wp_ldx m ρ c) $$ Hx
  iintro Hx
  iapply (wp_add m ρ c 6 (a := 512) rfl (at_y c 6 (by decide) (by decide)) (P := landed m ρ c 6) rfl (pay7 _ _)) $$ Hl6 Hb6
  iintro ⟨Hl6, Hm6⟩
  ihave Hr := (cut_z m ρ c).1 $$ [Hl5 Hl6]
  · isplitl [Hl5] <;> iassumption
  icases Hr with ⟨Hs14, HrY⟩
  iapply (wp_sendB m ρ K c 14 (by decide) (to_z4 c) (a := 688) rfl (from_z4 c) rfl rfl) $$ HR HO Hs14 Hh14 Ht14
  iintro ⟨Hf14, HO⟩
  iapply (wp_recv m ρ K c 11 (by decide) rfl (N_eq 11 _)) $$ HR HO Hi11
  iintro ⟨HO, Hz11, Hl11⟩
  iapply (wp_ldx m ρ c) $$ Hx
  iintro Hx
  rw [run, wp_ret]; imodintro
  iapply Hk
  isplitl [HO]; · iexact HO
  isplitl [Hm6]; · iexact Hm6
  isplitl [HrY]; · iexact HrY
  isplitl [Hf14]; · iexact Hf14
  isplitl [Hz11]; · iexact Hz11
  isplitl [Hl11]; · iexact Hl11
  iexact Hx

/-- Transfer 11 is added up; what transfer 3 brought is sent on along `y`. -/
theorem part11 (c : Dev nD) (v2 v5 v8 v11 v14 v17 v20 v333 : BitVec 32) {Q : (Σ' (v352 : BitVec 32) (v368 : BitVec 32), BitVec 32) → sProp 𝕄} :
    records m ρ K ⊢ iprop(Owe c owed3 -∗ landed m ρ c 11 -∗ blank c 11 -∗ inbound c 3 -∗ hole c 8 -∗ ship c 8
      -∗ (∀ v, (Owe c owed2 ∗ landed m ρ c 11 ∗ summed m ρ c 11 ∗ rcvZ c 3 ∗ srcB m ρ c 13 ∗ keep m ρ c 3 ∗ flying c 8) -∗ Q v)
      -∗ run c (k0_part11 xM h0 oM h1 bM h2 cc0_scratch1 cc0_scratch2 cc0_scratch3 cc0_scratch4 cc0_scratch5 cc0_scratch6 c v2 v5 v8 v11 v14 v17 v20 v333 (k0_pay8 ((xM.access (rows (k0_off10 c 512#32) 512 (k0_off10_inb c 0))).read (Elt F) (xstg m ρ c)))) Q) := by
  simp only [k0_part11_eq_skeleton]; unfold k0_part11_skel
  simp only [Prog.lift, Prog.bind_op, Prog.bind_ret, Prog.pure_eq_ret]
  iintro #HR HO Hl11 Hb11 Hi3 Hh8 Ht8 Hk
  iapply (wp_add m ρ c 11 (a := 512) rfl (at_z c 11 (by decide) (by decide)) (P := landed m ρ c 11) rfl (pay9 _ _)) $$ Hl11 Hb11
  iintro ⟨Hl11, Hm11⟩
  iapply (wp_recv m ρ K c 3 (by decide) rfl (N_eq 3 _)) $$ HR HO Hi3
  iintro ⟨HO, Hz3, Hl3⟩
  ihave Hl3 := (share_out m ρ c (u := 8) (v := 13) (by decide) rfl rfl).1 $$ Hl3
  icases Hl3 with ⟨Hs8, Hs13, Hl3⟩
  iapply (wp_sendB m ρ K c 8 (by decide) (to_y3 c) (a := 512) rfl (from_own c 8 (by decide)) rfl rfl) $$ HR HO Hs8 Hh8 Ht8
  iintro ⟨Hf8, HO⟩
  rw [run, wp_ret]; imodintro
  iapply Hk
  isplitl [HO]; · iexact HO
  isplitl [Hl11]; · iexact Hl11
  isplitl [Hm11]; · iexact Hm11
  isplitl [Hz3]; · iexact Hz3
  isplitl [Hs13]; · iexact Hs13
  isplitl [Hl3]; · iexact Hl3
  iexact Hf8

/-- What transfer 3 brought is sent on along `z`; transfers 3 and 12 are added up. -/
theorem part12 (c : Dev nD) (v2 v5 v17 v28 v352 v368 v369 : BitVec 32) {Q : (BitVec 32) → sProp 𝕄} :
    records m ρ K ⊢ iprop(Owe c owed2 -∗ srcB m ρ c 13 -∗ hole c 13 -∗ ship c 13 -∗ xRead m ρ c -∗ keep m ρ c 3 -∗ blank c 3 -∗ inbound c 12 -∗ blank c 12
      -∗ (∀ v, (Owe c owed1 ∗ flying c 13 ∗ keep m ρ c 3 ∗ summed m ρ c 3 ∗ rcvZ c 12 ∗ xRead m ρ c ∗ landed m ρ c 12 ∗ summed m ρ c 12) -∗ Q v)
      -∗ run c (k0_part12 xM h0 oM h1 bM h2 cc0_scratch1 cc0_scratch2 cc0_scratch3 cc0_scratch4 cc0_scratch5 cc0_scratch6 c v2 v5 v17 v28 v352 v368 v369) Q) := by
  simp only [k0_part12_eq_skeleton]; unfold k0_part12_skel
  simp only [Prog.lift, Prog.bind_op, Prog.bind_ret, Prog.pure_eq_ret]
  iintro #HR HO Hs13 Hh13 Ht13 Hx Hl3 Hb3 Hi12 Hb12 Hk
  iapply (wp_sendB m ρ K c 13 (by decide) (to_z3 c) (a := 512) rfl (from_own c 13 (by decide)) rfl rfl) $$ HR HO Hs13 Hh13 Ht13
  iintro ⟨Hf13, HO⟩
  iapply (wp_ldx m ρ c) $$ Hx
  iintro Hx
  iapply (wp_add m ρ c 3 (a := 512) rfl (at_own c 3 (by decide)) (P := keep m ρ c 3) rfl (pay10 _ _)) $$ Hl3 Hb3
  iintro ⟨Hl3, Hm3⟩
  iapply (wp_recv m ρ K c 12 (by decide) rfl (N_eq 12 _)) $$ HR HO Hi12
  iintro ⟨HO, Hz12, Hl12⟩
  iapply (wp_ldx m ρ c) $$ Hx
  iintro Hx
  iapply (wp_add m ρ c 12 (a := 512) rfl (at_z c 12 (by decide) (by decide)) (P := landed m ρ c 12) rfl (pay11 _ _)) $$ Hl12 Hb12
  iintro ⟨Hl12, Hm12⟩
  rw [run, wp_ret]; imodintro
  iapply Hk
  isplitl [HO]; · iexact HO
  isplitl [Hf13]; · iexact Hf13
  isplitl [Hl3]; · iexact Hl3
  isplitl [Hm3]; · iexact Hm3
  isplitl [Hz12]; · iexact Hz12
  isplitl [Hx]; · iexact Hx
  isplitl [Hl12]; · iexact Hl12
  iexact Hm12

end Cert.CubeSum

end
-- ==== Proof.PartsC.lean ====
/-
The last parts of the program: the last transfer along `y`, the remaining additions, and the waits for all transfers to have left.
-/
module

public import proofs.«01_k».proof.Proof.Payloads

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ci → ℕ)
variable (h0 : xM.IsWhole) (h1 : oM.IsWhole) (h2 : bM.IsWhole)

/-- The last transfer along `y` starts; transfer 7 is added up. -/
theorem part13 (c : Dev nD) (v2 v5 v8 v11 v14 v24 c16_i32_263 : BitVec 32) {Q : (BitVec 32) → sProp 𝕄} :
    records m ρ K ⊢ iprop(Owe c owed1 -∗ landed m ρ c 11 -∗ landed m ρ c 12 -∗ hole c 9 -∗ ship c 9 -∗ inbound c 7 -∗ xRead m ρ c -∗ blank c 7
      -∗ (∀ v, (Owe c owed0 ∗ restZ m ρ c ∗ flying c 9 ∗ rcvZ c 7 ∗ xRead m ρ c ∗ landed m ρ c 7 ∗ summed m ρ c 7) -∗ Q v)
      -∗ run c (k0_part13 xM h0 oM h1 bM h2 cc0_scratch1 cc0_scratch2 cc0_scratch3 cc0_scratch4 cc0_scratch5 cc0_scratch6 c v2 v5 v8 v11 v14 v24 c16_i32_263) Q) := by
  simp only [k0_part13_eq_skeleton]; unfold k0_part13_skel
  simp only [Prog.lift, Prog.bind_op, Prog.bind_ret, Prog.pure_eq_ret]
  iintro #HR HO Hl11 Hl12 Hh9 Ht9 Hi7 Hx Hb7 Hk
  ihave Hr := (cut_y m ρ c).1 $$ [Hl11 Hl12]
  · isplitl [Hl11] <;> iassumption
  icases Hr with ⟨Hs9, HrZ⟩
  iapply (wp_sendB m ρ K c 9 (by decide) (to_y4 c) (a := 672) rfl (from_y4 c) rfl rfl) $$ HR HO Hs9 Hh9 Ht9
  iintro ⟨Hf9, HO⟩
  iapply (wp_recv m ρ K c 7 (by decide) rfl (N_eq 7 _)) $$ HR HO Hi7
  iintro ⟨HO, Hz7, Hl7⟩
  iapply (wp_ldx m ρ c) $$ Hx
  iintro Hx
  iapply (wp_add m ρ c 7 (a := 512) rfl (at_y c 7 (by decide) (by decide)) (P := landed m ρ c 7) rfl (pay12 _ _)) $$ Hl7 Hb7
  iintro ⟨Hl7, Hm7⟩
  rw [run, wp_ret]; imodintro
  iapply Hk
  isplitl [HO]; · iexact HO
  isplitl [HrZ]; · iexact HrZ
  isplitl [Hf9]; · iexact Hf9
  isplitl [Hz7]; · iexact Hz7
  isplitl [Hx]; · iexact Hx
  isplitl [Hl7]; · iexact Hl7
  iexact Hm7

/-- Transfers 4 and 8 are added up. -/
theorem part14 (c : Dev nD) (v2 v8 v14 v24 v33 v439 : BitVec 32) {Q : (PUnit) → sProp 𝕄} :
    records m ρ K ⊢ iprop(Owe c owed0 -∗ inbound c 4 -∗ xRead m ρ c -∗ blank c 4 -∗ inbound c 8 -∗ blank c 8
      -∗ ((Owe c owed0 ∗ rcvZ c 4 ∗ landed m ρ c 4 ∗ summed m ρ c 4 ∗ rcvZ c 8 ∗ xRead m ρ c ∗ landed m ρ c 8 ∗ summed m ρ c 8) -∗ Q ⟨⟩)
      -∗ run c (k0_part14 xM h0 oM h1 bM h2 cc0_scratch1 cc0_scratch2 cc0_scratch3 cc0_scratch4 cc0_scratch5 cc0_scratch6 c v2 v8 v14 v24 v33 v439) Q) := by
  simp only [k0_part14_eq_skeleton]; unfold k0_part14_skel
  simp only [Prog.lift, Prog.bind_op, Prog.bind_ret, Prog.pure_eq_ret]
  iintro #HR HO Hi4 Hx Hb4 Hi8 Hb8 Hk
  iapply (wp_recv m ρ K c 4 (by decide) rfl (N_eq 4 _)) $$ HR HO Hi4
  iintro ⟨HO, Hz4, Hl4⟩
  iapply (wp_ldx m ρ c) $$ Hx
  iintro Hx
  iapply (wp_add m ρ c 4 (a := 688) rfl (at_x4 c) (P := landed m ρ c 4) rfl (pay13 _ _)) $$ Hl4 Hb4
  iintro ⟨Hl4, Hm4⟩
  iapply (wp_recv m ρ K c 8 (by decide) rfl (N_eq 8 _)) $$ HR HO Hi8
  iintro ⟨HO, Hz8, Hl8⟩
  iapply (wp_ldx m ρ c) $$ Hx
  iintro Hx
  iapply (wp_add m ρ c 8 (a := 512) rfl (at_y c 8 (by decide) (by decide)) (P := landed m ρ c 8) rfl (pay14 _ _)) $$ Hl8 Hb8
  iintro ⟨Hl8, Hm8⟩
  rw [run, wp_ret]; imodintro
  iapply Hk
  isplitl [HO]; · iexact HO
  isplitl [Hz4]; · iexact Hz4
  isplitl [Hl4]; · iexact Hl4
  isplitl [Hm4]; · iexact Hm4
  isplitl [Hz8]; · iexact Hz8
  isplitl [Hx]; · iexact Hx
  isplitl [Hl8]; · iexact Hl8
  iexact Hm8

/-- Transfer 13 is added up; transfer 9 lands, and the same rows of the own block are loaded. -/
theorem part15 (c : Dev nD) (v2 v5 v8 v14 v17 v28 v33 : BitVec 32) {Q : (Σ' (v505 : BitVec 32), FVec F S672x1024 .bf16) → sProp 𝕄} :
    records m ρ K ⊢ iprop(Owe c owed0 -∗ inbound c 13 -∗ xRead m ρ c -∗ blank c 13 -∗ inbound c 9
      -∗ (∀ v, (Owe c owed0 ∗ rcvZ c 13 ∗ landed m ρ c 13 ∗ summed m ρ c 13 ∗ rcvZ c 9 ∗ landed m ρ c 9 ∗ xRead m ρ c) -∗ Q ⟨v, k0_pay16 ((xM.access (rows (k0_off14 c) 672 (k0_off14_inb c))).read (Elt F) (xstg m ρ c))⟩)
      -∗ run c (k0_part15 xM h0 oM h1 bM h2 cc0_scratch1 cc0_scratch2 cc0_scratch3 cc0_scratch4 cc0_scratch5 cc0_scratch6 c v2 v5 v8 v14 v17 v28 v33) Q) := by
  simp only [k0_part15_eq_skeleton]; unfold k0_part15_skel
  simp only [Prog.lift, Prog.bind_op, Prog.bind_ret, Prog.pure_eq_ret]
  iintro #HR HO Hi13 Hx Hb13 Hi9 Hk
  iapply (wp_recv m ρ K c 13 (by decide) rfl (N_eq 13 _)) $$ HR HO Hi13
  iintro ⟨HO, Hz13, Hl13⟩
  iapply (wp_ldx m ρ c) $$ Hx
  iintro Hx
  iapply (wp_add m ρ c 13 (a := 512) rfl (at_z c 13 (by decide) (by decide)) (P := landed m ρ c 13) rfl (pay15 _ _)) $$ Hl13 Hb13
  iintro ⟨Hl13, Hm13⟩
  iapply (wp_recv m ρ K c 9 (by decide) rfl (N_eq 9 _)) $$ HR HO Hi9
  iintro ⟨HO, Hz9, Hl9⟩
  iapply (wp_ldx m ρ c) $$ Hx
  iintro Hx
  rw [run, wp_ret]; imodintro
  iapply Hk
  isplitl [HO]; · iexact HO
  isplitl [Hz13]; · iexact Hz13
  isplitl [Hl13]; · iexact Hl13
  isplitl [Hm13]; · iexact Hm13
  isplitl [Hz9]; · iexact Hz9
  isplitl [Hl9]; · iexact Hl9
  iexact Hx

/-- Transfers 9 and 14 are added up; transfers 0 and 1 have left. -/
theorem part16 (c : Dev nD) (v2 v5 v17 v33 v505 : BitVec 32) {Q : (PUnit) → sProp 𝕄} :
    records m ρ K ⊢ iprop(Owe c owed0 -∗ landed m ρ c 9 -∗ blank c 9 -∗ inbound c 14 -∗ xRead m ρ c -∗ blank c 14 -∗ flying c 0 -∗ flying c 1
      -∗ ((Owe c owed0 ∗ landed m ρ c 9 ∗ summed m ρ c 9 ∗ rcvZ c 14 ∗ xRead m ρ c ∗ landed m ρ c 14 ∗ summed m ρ c 14 ∗ sndZ c 0 ∗ src m ρ c 0 ∗ sndZ c 1 ∗ src m ρ c 1) -∗ Q ⟨⟩)
      -∗ run c (k0_part16 xM h0 oM h1 bM h2 cc0_scratch1 cc0_scratch2 cc0_scratch3 cc0_scratch4 cc0_scratch5 cc0_scratch6 c v2 v5 v17 v33 v505 (k0_pay16 ((xM.access (rows (k0_off14 c) 672 (k0_off14_inb c))).read (Elt F) (xstg m ρ c)))) Q) := by
  simp only [k0_part16_eq_skeleton]; unfold k0_part16_skel
  simp only [Prog.lift, Prog.bind_op, Prog.bind_ret, Prog.pure_eq_ret]
  iintro #HR HO Hl9 Hb9 Hi14 Hx Hb14 Hf0 Hf1 Hk
  iapply (wp_add m ρ c 9 (a := 672) rfl (at_y4 c) (P := landed m ρ c 9) rfl (pay17 _ _)) $$ Hl9 Hb9
  iintro ⟨Hl9, Hm9⟩
  iapply (wp_recv m ρ K c 14 (by decide) rfl (N_eq 14 _)) $$ HR HO Hi14
  iintro ⟨HO, Hz14, Hl14⟩
  iapply (wp_ldx m ρ c) $$ Hx
  iintro Hx
  iapply (wp_add m ρ c 14 (a := 688) rfl (at_z4 c) (P := landed m ρ c 14) rfl (pay18 _ _)) $$ Hl14 Hb14
  iintro ⟨Hl14, Hm14⟩
  iapply (wp_sent m ρ K c 0 rfl (N_eq_x 0 _)) $$ HR HO Hf0
  iintro ⟨HO, Hw0, Hs0⟩
  iapply (wp_sent m ρ K c 1 rfl (N_eq_x 1 _)) $$ HR HO Hf1
  iintro ⟨HO, Hw1, Hs1⟩
  rw [run, wp_ret]; imodintro
  iapply Hk
  isplitl [HO]; · iexact HO
  isplitl [Hl9]; · iexact Hl9
  isplitl [Hm9]; · iexact Hm9
  isplitl [Hz14]; · iexact Hz14
  isplitl [Hx]; · iexact Hx
  isplitl [Hl14]; · iexact Hl14
  isplitl [Hm14]; · iexact Hm14
  isplitl [Hw0]; · iexact Hw0
  isplitl [Hs0]; · iexact Hs0
  isplitl [Hw1]; · iexact Hw1
  iexact Hs1

/-- Transfers 2 to 7 have left. -/
theorem part17 (c : Dev nD) {Q : (PUnit) → sProp 𝕄} :
    records m ρ K ⊢ iprop(Owe c owed0 -∗ flying c 2 -∗ flying c 3 -∗ flying c 4 -∗ flying c 5 -∗ flying c 6 -∗ flying c 7
      -∗ ((Owe c owed0 ∗ sndZ c 2 ∗ src m ρ c 2 ∗ sndZ c 3 ∗ src m ρ c 3 ∗ sndZ c 4 ∗ src m ρ c 4 ∗ sndZ c 5 ∗ src m ρ c 5 ∗ sndZ c 6 ∗ src m ρ c 6 ∗ sndZ c 7 ∗ src m ρ c 7) -∗ Q ⟨⟩)
      -∗ run c (k0_part17 xM h0 oM h1 bM h2 cc0_scratch1 cc0_scratch2 cc0_scratch3 cc0_scratch4 cc0_scratch5 cc0_scratch6 c) Q) := by
  simp only [k0_part17_eq_skeleton]; unfold k0_part17_skel
  simp only [Prog.lift, Prog.bind_op, Prog.bind_ret, Prog.pure_eq_ret]
  iintro #HR HO Hf2 Hf3 Hf4 Hf5 Hf6 Hf7 Hk
  iapply (wp_sent m ρ K c 2 rfl (N_eq_x 2 _)) $$ HR HO Hf2
  iintro ⟨HO, Hw2, Hs2⟩
  iapply (wp_sent m ρ K c 3 rfl (N_eq_x 3 _)) $$ HR HO Hf3
  iintro ⟨HO, Hw3, Hs3⟩
  iapply (wp_sent m ρ K c 4 rfl (N_eq_x 4 _)) $$ HR HO Hf4
  iintro ⟨HO, Hw4, Hs4⟩
  iapply (wp_sent m ρ K c 5 rfl (N_eq 5 _)) $$ HR HO Hf5
  iintro ⟨HO, Hw5, Hs5⟩
  iapply (wp_sent m ρ K c 6 rfl (N_eq 6 _)) $$ HR HO Hf6
  iintro ⟨HO, Hw6, Hs6⟩
  iapply (wp_sent m ρ K c 7 rfl (N_eq 7 _)) $$ HR HO Hf7
  iintro ⟨HO, Hw7, Hs7⟩
  rw [run, wp_ret]; imodintro
  iapply Hk
  isplitl [HO]; · iexact HO
  isplitl [Hw2]; · iexact Hw2
  isplitl [Hs2]; · iexact Hs2
  isplitl [Hw3]; · iexact Hw3
  isplitl [Hs3]; · iexact Hs3
  isplitl [Hw4]; · iexact Hw4
  isplitl [Hs4]; · iexact Hs4
  isplitl [Hw5]; · iexact Hw5
  isplitl [Hs5]; · iexact Hs5
  isplitl [Hw6]; · iexact Hw6
  isplitl [Hs6]; · iexact Hs6
  isplitl [Hw7]; · iexact Hw7
  iexact Hs7

/-- Transfers 8 to 13 have left. -/
theorem part18 (c : Dev nD) {Q : (PUnit) → sProp 𝕄} :
    records m ρ K ⊢ iprop(Owe c owed0 -∗ flying c 8 -∗ flying c 10 -∗ flying c 11 -∗ flying c 12 -∗ flying c 13 -∗ flying c 9
      -∗ ((Owe c owed0 ∗ sndZ c 8 ∗ src m ρ c 8 ∗ sndZ c 10 ∗ src m ρ c 10 ∗ sndZ c 11 ∗ src m ρ c 11 ∗ sndZ c 12 ∗ src m ρ c 12 ∗ sndZ c 13 ∗ src m ρ c 13 ∗ sndZ c 9 ∗ src m ρ c 9) -∗ Q ⟨⟩)
      -∗ run c (k0_part18 xM h0 oM h1 bM h2 cc0_scratch1 cc0_scratch2 cc0_scratch3 cc0_scratch4 cc0_scratch5 cc0_scratch6 c) Q) := by
  simp only [k0_part18_eq_skeleton]; unfold k0_part18_skel
  simp only [Prog.lift, Prog.bind_op, Prog.bind_ret, Prog.pure_eq_ret]
  iintro #HR HO Hf8 Hf10 Hf11 Hf12 Hf13 Hf9 Hk
  iapply (wp_sent m ρ K c 8 rfl (N_eq 8 _)) $$ HR HO Hf8
  iintro ⟨HO, Hw8, Hs8⟩
  iapply (wp_sent m ρ K c 10 rfl (N_eq 10 _)) $$ HR HO Hf10
  iintro ⟨HO, Hw10, Hs10⟩
  iapply (wp_sent m ρ K c 11 rfl (N_eq 11 _)) $$ HR HO Hf11
  iintro ⟨HO, Hw11, Hs11⟩
  iapply (wp_sent m ρ K c 12 rfl (N_eq 12 _)) $$ HR HO Hf12
  iintro ⟨HO, Hw12, Hs12⟩
  iapply (wp_sent m ρ K c 13 rfl (N_eq 13 _)) $$ HR HO Hf13
  iintro ⟨HO, Hw13, Hs13⟩
  iapply (wp_sent m ρ K c 9 rfl (N_eq 9 _)) $$ HR HO Hf9
  iintro ⟨HO, Hw9, Hs9⟩
  rw [run, wp_ret]; imodintro
  iapply Hk
  isplitl [HO]; · iexact HO
  isplitl [Hw8]; · iexact Hw8
  isplitl [Hs8]; · iexact Hs8
  isplitl [Hw10]; · iexact Hw10
  isplitl [Hs10]; · iexact Hs10
  isplitl [Hw11]; · iexact Hw11
  isplitl [Hs11]; · iexact Hs11
  isplitl [Hw12]; · iexact Hw12
  isplitl [Hs12]; · iexact Hs12
  isplitl [Hw13]; · iexact Hw13
  isplitl [Hs13]; · iexact Hs13
  isplitl [Hw9]; · iexact Hw9
  iexact Hs9

end Cert.CubeSum

end
-- ==== Proof.Body.lean ====
/-
The whole program of a device, part by part: from its kit and its three buffers to the sum in the result buffer, with
every semaphore back at zero and nothing owed.
-/
module

public import proofs.«01_k».proof.Proof.Joins
public import proofs.«01_k».proof.Proof.PartsA
public import proofs.«01_k».proof.Proof.PartsB
public import proofs.«01_k».proof.Proof.PartsC

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ci → ℕ)
variable (h0 : xM.IsWhole) (h1 : oM.IsWhole) (h2 : bM.IsWhole)

/-- What a device starts with beside its buffers: the three signals it pays, the barrier credit it waits for, the rights to
    its transfers, the credits of the transfers that reach it. -/
def kit (c : Dev nD) : sProp 𝕄 :=
  iprop((dutyTok ER (barCell (nb 0 c)) 0 0 ∗ dutyTok ER (barCell (nb 1 c)) 0 1 ∗ dutyTok ER (barCell (nb 2 c)) 0 2)
    ∗ (cred (tallyAt (barCell c) () 3) ∗ atPos ER (barCell c) 0 ∅ 0)
    ∗ (bigSep Finset.univ fun t => ship c t) ∗ bigSep Finset.univ fun t => inbound c t)

/-- What it has at the end beside its buffers: its semaphores at zero. -/
def spent (c : Dev nD) : sProp 𝕄 :=
  iprop(semVal (barCell c) 0 ∗ (bigSep Finset.univ fun t => sndZ c t) ∗ bigSep Finset.univ fun t => rcvZ c t)

/-- The rows a device holds at the end are its three whole buffers again. -/
theorem gather (c : Dev nD) :
    iprop((xRead m ρ c ∗ xAside m ρ c ∗ (keep m ρ c 0 ∗ keep m ρ c 1 ∗ keep m ρ c 2 ∗ keep m ρ c 3)
      ∗ (landed m ρ c 4 ∗ landed m ρ c 7 ∗ landed m ρ c 8 ∗ landed m ρ c 9 ∗ landed m ρ c 10 ∗ landed m ρ c 13 ∗ landed m ρ c 14)
      ∗ (restY m ρ c ∗ restZ m ρ c) ∗ bigSep Finset.univ fun t => src m ρ c t) ∗ bigSep Finset.univ fun t => summed m ρ c t)
    ⊢ iprop(xPts c Finset.univ fullShare (xstg m ρ c) ∗ oPts c Finset.univ (outAt m ρ c) ∗ bPts c Finset.univ fullShare (got m ρ c)) := by
  rw [each_tr (fun t => src m ρ c t), oPts_bands,
    show bPts c Finset.univ fullShare (got m ρ c) = bigSep Finset.univ fun t => landed m ρ c t from bPts_bands c _, each_tr (fun t => landed m ρ c t)]
  iintro ⟨⟨Hx, Ha, ⟨Hl0, Hl1, Hl2, Hl3⟩, ⟨Hl4, Hl7, Hl8, Hl9, Hl10, Hl13, Hl14⟩, ⟨HrY, HrZ⟩, Hs0, Hs1, Hs2, Hs3, Hs4, Hs5, Hs6, Hs7, Hs8, Hs9, Hs10, Hs11, Hs12, Hs13, Hs14⟩, Hm⟩
  ihave Hs0 := (src_x m ρ c 0 rfl) $$ Hs0
  ihave Hs1 := (src_x m ρ c 1 rfl) $$ Hs1
  ihave Hs2 := (src_x m ρ c 2 rfl) $$ Hs2
  ihave Hs3 := (src_x m ρ c 3 rfl) $$ Hs3
  ihave Hs4 := (src_x m ρ c 4 rfl) $$ Hs4
  ihave Hs5 := (src_yz m ρ c 5 (by decide)) $$ Hs5
  ihave Hs6 := (src_yz m ρ c 6 (by decide)) $$ Hs6
  ihave Hs7 := (src_yz m ρ c 7 (by decide)) $$ Hs7
  ihave Hs8 := (src_yz m ρ c 8 (by decide)) $$ Hs8
  ihave Hs9 := (src_yz m ρ c 9 (by decide)) $$ Hs9
  ihave Hs10 := (src_yz m ρ c 10 (by decide)) $$ Hs10
  ihave Hs11 := (src_yz m ρ c 11 (by decide)) $$ Hs11
  ihave Hs12 := (src_yz m ρ c 12 (by decide)) $$ Hs12
  ihave Hs13 := (src_yz m ρ c 13 (by decide)) $$ Hs13
  ihave Hs14 := (src_yz m ρ c 14 (by decide)) $$ Hs14
  ihave Hx := (cut_x m ρ c).2 $$ [Hx Hs0 Hs1 Hs2 Hs3 Hs4 Ha]
  · isplitl [Hx]; · iexact Hx
    isplitl [Hs0]; · iexact Hs0
    isplitl [Hs1]; · iexact Hs1
    isplitl [Hs2]; · iexact Hs2
    isplitl [Hs3]; · iexact Hs3
    isplitl [Hs4]; · iexact Hs4
    iexact Ha
  ihave Hl0 := (share_out m ρ c (t := 0) (u := 5) (v := 10) (by decide) rfl rfl).2 $$ [Hs5 Hs10 Hl0]
  · isplitl [Hs5]; · iexact Hs5
    isplitl [Hs10] <;> iassumption
  ihave Hl1 := (share_out m ρ c (t := 1) (u := 6) (v := 11) (by decide) rfl rfl).2 $$ [Hs6 Hs11 Hl1]
  · isplitl [Hs6]; · iexact Hs6
    isplitl [Hs11] <;> iassumption
  ihave Hl2 := (share_out m ρ c (t := 2) (u := 7) (v := 12) (by decide) rfl rfl).2 $$ [Hs7 Hs12 Hl2]
  · isplitl [Hs7]; · iexact Hs7
    isplitl [Hs12] <;> iassumption
  ihave Hl3 := (share_out m ρ c (t := 3) (u := 8) (v := 13) (by decide) rfl rfl).2 $$ [Hs8 Hs13 Hl3]
  · isplitl [Hs8]; · iexact Hs8
    isplitl [Hs13] <;> iassumption
  ihave Hr := (cut_z m ρ c).2 $$ [Hs14 HrY]
  · isplitl [Hs14] <;> iassumption
  icases Hr with ⟨Hl5, Hl6⟩
  ihave Hr := (cut_y m ρ c).2 $$ [Hs9 HrZ]
  · isplitl [Hs9] <;> iassumption
  icases Hr with ⟨Hl11, Hl12⟩
  isplitl [Hx]; · iexact Hx
  isplitl [Hm]; · iexact Hm
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hl6]; · iexact Hl6
  isplitl [Hl7]; · iexact Hl7
  isplitl [Hl8]; · iexact Hl8
  isplitl [Hl9]; · iexact Hl9
  isplitl [Hl10]; · iexact Hl10
  isplitl [Hl11]; · iexact Hl11
  isplitl [Hl12]; · iexact Hl12
  isplitl [Hl13]; · iexact Hl13
  iexact Hl14

set_option maxHeartbeats 4000000 in
/-- The program of a device. -/
theorem body_run (c : Dev nD) (fo) (fb) {Q : PUnit → sProp 𝕄} :
    records m ρ K ⊢ iprop(Owe c allDues -∗ kit c -∗ xPts c Finset.univ fullShare (xstg m ρ c) -∗ oPts c Finset.univ fo -∗ bPts c Finset.univ fullShare fb
      -∗ ((Owe c [] ∗ spent c ∗ xPts c Finset.univ fullShare (xstg m ρ c) ∗ oPts c Finset.univ (outAt m ρ c) ∗ bPts c Finset.univ fullShare (got m ρ c)) -∗ Q ⟨⟩)
      -∗ run c (cc0_body xM h0 oM h1 bM h2 cc0_scratch1 cc0_scratch2 cc0_scratch3 cc0_scratch4 cc0_scratch5 cc0_scratch6) Q) := by
  rw [cc0_body_eq_skeleton]; unfold cc0_body_skel kit
  rw [each_tr (fun t => ship c t), each_tr (fun t => inbound c t)]
  simp only [k0_part1_eq_skeleton]; unfold k0_part1_skel
  simp only [Prog.lift, Prog.bind_op, Prog.bind_ret, Prog.pure_eq_ret, wp_deviceId]
  iintro #HR HO ⟨HtB, HcB, ⟨Ht0, Ht1, Ht2, Ht3, Ht4, Ht5, Ht6, Ht7, Ht8, Ht9, Ht10, Ht11, Ht12, Ht13, Ht14⟩, Hi0, Hi1, Hi2, Hi3, Hi4, Hi5, Hi6, Hi7, Hi8, Hi9, Hi10, Hi11, Hi12, Hi13, Hi14⟩ Hx Ho Hb Hk
  ihave Hp := (give c fb) $$ Hb
  ihave Hx := (cut_x m ρ c).1 $$ Hx
  icases Hx with ⟨Hx, Hs0, Hs1, Hs2, Hs3, Hs4, Ha⟩
  ihave Hb := ((blanks c fo).trans (Entails.of_eq (each_tr _))) $$ Ho
  icases Hb with ⟨Hb0, Hb1, Hb2, Hb3, Hb4, Hb5, Hb6, Hb7, Hb8, Hb9, Hb10, Hb11, Hb12, Hb13, Hb14⟩
  rw [wp_bind]
  iapply (part2 m ρ K h0 h1 h2 c _ _ _ _ _ _ _) $$ HR HO HtB Hp HcB
  unfold barPay
  iintro ⟨HO, HzB, ⟨Hh0, Hh1, Hh2, Hh3, Hh4⟩, ⟨Hh5, Hh6, Hh7, Hh8, Hh9⟩, Hh10, Hh11, Hh12, Hh13, Hh14⟩
  rw [wp_bind]
  iapply (part3 m ρ K h0 h1 h2 c _ _ _ _) $$ HR HO Hs0 Hh0 Ht0 Hs1 Hh1 Ht1 Hs2 Hh2 Ht2
  iintro %v ⟨HO, Hf0, Hf1, Hf2⟩
  rw [wp_bind]
  iapply (part4 m ρ K h0 h1 h2 c _ _ _ _ _ _ _) $$ HR HO Hs3 Hh3 Ht3 Hs4 Hh4 Ht4
  iintro %v ⟨HO, Hf3, Hf4⟩
  obtain ⟨w0, w1⟩ := v
  dsimp only
  rw [wp_bind]
  iapply (part5 m ρ K h0 h1 h2 c _ _ _ _ _ _ _ _) $$ HR HO Hi0 Hh5 Ht5 Hh10 Ht10 Hx
  iintro %v ⟨HO, Hz0, Hl0, Hf5, Hf10, Hx⟩
  dsimp only
  rw [wp_bind]
  iapply (part6 m ρ K h0 h1 h2 c _ _ _ _ _ _ _) $$ HR HO Hl0 Hb0 Hi1 Hh6 Ht6
  iintro %v ⟨HO, Hl0, Hm0, Hz1, Hs11, Hl1, Hf6⟩
  obtain ⟨w0, w1, w2⟩ := v
  dsimp only
  rw [wp_bind]
  iapply (part7 m ρ K h0 h1 h2 c _ _ _ _ _ _ _ _) $$ HR HO Hs11 Hh11 Ht11 Hx Hl1 Hb1 Hi5 Hb5
  iintro %v ⟨HO, Hf11, Hl1, Hm1, Hz5, Hx, Hl5, Hm5⟩
  rw [wp_bind]
  iapply (part8 m ρ K h0 h1 h2 c _ _ _ _ _ _ _ _ _) $$ HR HO Hi10 Hx Hb10 Hi2
  iintro %v ⟨HO, Hz10, Hx, Hl10, Hm10, Hz2, Hl2⟩
  rw [wp_bind]
  iapply (part9 m ρ K h0 h1 h2 c _ _ _ _ _ _) $$ HR HO Hl2 Hh7 Ht7 Hh12 Ht12 Hx Hb2 Hi6
  iintro %v ⟨HO, Hf7, Hf12, Hx, Hl2, Hm2, Hz6, Hl6⟩
  rw [wp_bind]
  iapply (part10 m ρ K h0 h1 h2 c _ _ _ _ _ _) $$ HR HO Hx Hl6 Hb6 Hl5 Hh14 Ht14 Hi11
  iintro %v ⟨HO, Hm6, HrY, Hf14, Hz11, Hl11, Hx⟩
  dsimp only
  rw [wp_bind]
  iapply (part11 m ρ K h0 h1 h2 c _ _ _ _ _ _ _ _) $$ HR HO Hl11 Hb11 Hi3 Hh8 Ht8
  iintro %v ⟨HO, Hl11, Hm11, Hz3, Hs13, Hl3, Hf8⟩
  obtain ⟨w0, w1, w2⟩ := v
  dsimp only
  rw [wp_bind]
  iapply (part12 m ρ K h0 h1 h2 c _ _ _ _ _ _ _) $$ HR HO Hs13 Hh13 Ht13 Hx Hl3 Hb3 Hi12 Hb12
  iintro %v ⟨HO, Hf13, Hl3, Hm3, Hz12, Hx, Hl12, Hm12⟩
  rw [wp_bind]
  iapply (part13 m ρ K h0 h1 h2 c _ _ _ _ _ _ _) $$ HR HO Hl11 Hl12 Hh9 Ht9 Hi7 Hx Hb7
  iintro %v ⟨HO, HrZ, Hf9, Hz7, Hx, Hl7, Hm7⟩
  rw [wp_bind]
  iapply (part14 m ρ K h0 h1 h2 c _ _ _ _ _ _) $$ HR HO Hi4 Hx Hb4 Hi8 Hb8
  iintro ⟨HO, Hz4, Hl4, Hm4, Hz8, Hx, Hl8, Hm8⟩
  rw [wp_bind]
  iapply (part15 m ρ K h0 h1 h2 c _ _ _ _ _ _ _) $$ HR HO Hi13 Hx Hb13 Hi9
  iintro %v ⟨HO, Hz13, Hl13, Hm13, Hz9, Hl9, Hx⟩
  dsimp only
  rw [wp_bind]
  iapply (part16 m ρ K h0 h1 h2 c _ _ _ _ _) $$ HR HO Hl9 Hb9 Hi14 Hx Hb14 Hf0 Hf1
  iintro ⟨HO, Hl9, Hm9, Hz14, Hx, Hl14, Hm14, Hw0, Hs0, Hw1, Hs1⟩
  rw [wp_bind]
  iapply (part17 m ρ K h0 h1 h2 c) $$ HR HO Hf2 Hf3 Hf4 Hf5 Hf6 Hf7
  iintro ⟨HO, Hw2, Hs2, Hw3, Hs3, Hw4, Hs4, Hw5, Hs5, Hw6, Hs6, Hw7, Hs7⟩
  rw [wp_bind]
  iapply (part18 m ρ K h0 h1 h2 c) $$ HR HO Hf8 Hf10 Hf11 Hf12 Hf13 Hf9
  iintro ⟨HO, Hw8, Hs8, Hw10, Hs10, Hw11, Hs11, Hw12, Hs12, Hw13, Hs13, Hw9, Hs9⟩
  iapply (wp_sent m ρ K c 14 rfl (N_eq 14 _)) $$ HR HO Hf14
  iintro ⟨HO, Hw14, Hs14⟩
  rw [run, wp_ret]; imodintro
  ihave Hg := (gather m ρ c) $$ [Hx Ha Hl0 Hl1 Hl2 Hl3 Hl4 Hl7 Hl8 Hl9 Hl10 Hl13 Hl14 HrY HrZ Hs0 Hs1 Hs2 Hs3 Hs4 Hs5 Hs6 Hs7 Hs8 Hs9 Hs10 Hs11 Hs12 Hs13 Hs14 Hm0 Hm1 Hm2 Hm3 Hm4 Hm5 Hm6 Hm7 Hm8 Hm9 Hm10 Hm11 Hm12 Hm13 Hm14]
  · rw [each_tr (fun t => src m ρ c t), each_tr (fun t => summed m ρ c t)]
    isplitr [Hm0 Hm1 Hm2 Hm3 Hm4 Hm5 Hm6 Hm7 Hm8 Hm9 Hm10 Hm11 Hm12 Hm13 Hm14]
    · isplitl [Hx]; · iexact Hx
      isplitl [Ha]; · iexact Ha
      isplitl [Hl0 Hl1 Hl2 Hl3]
      · isplitl [Hl0]; · iexact Hl0
        isplitl [Hl1]; · iexact Hl1
        isplitl [Hl2]; · iexact Hl2
        iexact Hl3
      isplitl [Hl4 Hl7 Hl8 Hl9 Hl10 Hl13 Hl14]
      · isplitl [Hl4]; · iexact Hl4
        isplitl [Hl7]; · iexact Hl7
        isplitl [Hl8]; · iexact Hl8
        isplitl [Hl9]; · iexact Hl9
        isplitl [Hl10]; · iexact Hl10
        isplitl [Hl13]; · iexact Hl13
        iexact Hl14
      isplitl [HrY HrZ]
      · isplitl [HrY]; · iexact HrY
        iexact HrZ
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      iexact Hm14
  iapply Hk
  isplitl [HO]; · iexact HO
  isplitr [Hg]
  · unfold spent
    rw [each_tr (fun t => sndZ c t), each_tr (fun t => rcvZ c t)]
    isplitl [HzB]; · iexact HzB
    isplitl [Hw0 Hw1 Hw2 Hw3 Hw4 Hw5 Hw6 Hw7 Hw8 Hw9 Hw10 Hw11 Hw12 Hw13 Hw14]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      iexact Hw14
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  iexact Hg

end Cert.CubeSum

end
-- ==== Proof.Data.lean ====
/-
What the launch is told about a device: what it starts with, what it ends with, what its buffers hold; and that the program
of a device keeps to it.
-/
module

public import proofs.«01_k».proof.Proof.Body

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device starts with, beside its buffers. -/
def start (c : Dev nD) : sProp 𝕄 := iprop((∃ K, records m ρ K) ∗ kit c)

/-- Before the program: that, and the scratch buffer at any contents. -/
def before (c : Dev nD) : sProp 𝕄 := iprop(start m ρ c ∗ ∃ f, bPts c Finset.univ fullShare f)
/-- After it: the scratch buffer, and the semaphores at zero. -/
def after (c : Dev nD) : sProp 𝕄 := iprop(bPts c Finset.univ fullShare (got m ρ c) ∗ spent c)

/-- The data of the one pipeline: a single point, `x` fetched and the sum written back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => before m ρ c
    | ⟨_ + 1, _⟩ => after m ρ c
  q _ := fullShare
  owed t := match t with
    | ⟨0, _⟩ => O₀ c
    | ⟨_ + 1, _⟩ => 0

theorem N_one : cfg0.N = 1 := by decide
/-- The one point of the pipeline. -/
def pt : Fin cfg0.N := ⟨0, by rw [N_one]; decide⟩
theorem pt_only (t : Fin cfg0.N) : t = pt := by
  have h := N_one; have h' := t.isLt
  exact Fin.ext (show t.val = 0 by omega)

omit [FloatOps F] in
/-- A staging buffer that is said to read as `X` holds `X`. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`, as the obligation of the body states it. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the program may take for granted, -/
def obPre (c : Dev nD) : sProp 𝕄 :=
  iprop(before m ρ c ∗ (dats m ρ 0 c).owesAt () pt.castSucc
    ∗ (∃ d, holds c cc0_stg0_0 ((dats m ρ 0 c).before (0 : Fin 2) pt d))
    ∗ (∃ d, holds c cc0_stg1_0 ((dats m ρ 0 c).before (1 : Fin 2) pt d)))
/-- and what it is to leave. -/
def obPost (c : Dev nD) : sProp 𝕄 :=
  iprop(after m ρ c ∗ (dats m ρ 0 c).owesAt () pt.succ
    ∗ holds c cc0_stg0_0 (xstg m ρ c) ∗ holds c cc0_stg1_0 (outAt m ρ c))

/-- The block of `x` is fetched before the point. -/
theorem fetched : (cfg0.win (0 : Fin 2)).fetch pt = true := rfl

/-- The program of a device meets its obligation, -/
theorem body_meets (c : Dev nD) (h0 : xM.IsWhole) (h1 : oM.IsWhole) (h2 : bM.IsWhole) :
    obPre m ρ c ⊢ run c (cc0_body xM h0 oM h1 bM h2 cc0_scratch1 cc0_scratch2 cc0_scratch3 cc0_scratch4 cc0_scratch5 cc0_scratch6) (fun _ => obPost m ρ c) := by
  unfold obPre before start
  iintro ⟨⟨⟨⟨%K, #HR⟩, Hk⟩, ⟨%fb, Hb⟩⟩, HO, ⟨%d0, %g0, %hg0, Hx⟩, ⟨%d1, %g1, %hg1, Ho⟩⟩
  have hx : g0 = xstg m ρ c := by rw [hg0]; unfold Dat.before; rw [if_pos fetched]; rfl
  subst hx
  unfold Dat.owesAt Pipeline.owesWithin
  icases HO with ⟨%W, %hW, HO⟩
  rw [show (dats m ρ 0 c).owed pt.castSucc = dues c allDues from rfl]
  iapply (body_run m ρ K h0 h1 h2 c g1 fb) $$ HR [HO] Hk [Hx] [Ho] Hb
  · unfold Owe; iexists W; iexact HO
  · unfold xPts; iexact Hx
  · unfold oPts; iexact Ho
  iintro ⟨HO, Hs, Hx, Ho, Hb⟩
  unfold obPost after Dat.owesAt Pipeline.owesWithin Owe xPts oPts
  icases HO with ⟨%W', HO⟩
  rw [show (dats m ρ 0 c).owed pt.succ = dues c [] from rfl]
  isplitl [Hb Hs]
  · isplitl [Hb] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 65536 in
/-- in the form in which the launch asks for it. -/
theorem body_obligation (c : Dev nD) : BodyObligation (dats (F := F) m ρ 0 c) (defs₀ (F := F)) 𝒱₀ () Set.univ := fun t => by
  rw [pt_only t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_stage]
  exact body_meets m ρ c (Memref.isWhole_whole _) (Memref.isWhole_whole _) (Memref.isWhole_whole _)

end Cert.CubeSum

end
-- ==== Proof.Launch.lean ====
/-
The launch: every device's semaphores become cells of the protocol, the rights to signal are dealt to the devices that
signal, and each cell's credit is what the devices owe it together.
-/
module

public import proofs.«01_k».proof.Proof.Data

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and all cells -/

abbrev osem : Tr ⊕ Tr → SemLoc sig
  | .inl t => .dma (sndS t)
  | .inr t => .dma (rcvS t)

theorem ownSemFacts : Pipeline.OwnSemFacts cfg0.spec osem := by decide +kernel

theorem osem_inj : Function.Injective osem := ownSemFacts.inj

theorem kcell_inj : Function.Injective (kcell : Dev nD × Ci → GSem nD τ sig) := by
  rintro ⟨c, k⟩ ⟨c', k'⟩ h
  have hc : c = c' := congrArg (fun g : GSem nD τ sig => g.1.1) h
  have hk : csem k = csem k' := congrArg Prod.snd h
  subst hc
  refine congrArg (Prod.mk c) ?_
  rcases k with u | k <;> rcases k' with u' | k'
  · rfl
  · rcases k' with t | t <;> exact absurd hk (fun h => by cases h)
  · rcases k with t | t <;> exact absurd hk (fun h => by cases h)
  · exact congrArg Sum.inr (osem_inj (by rcases k with t | t <;> rcases k' with t' | t' <;> exact hk))

/-- All cells. -/
def allCells : Finset (GSem nD τ sig) := Finset.univ.map ⟨kcell, kcell_inj⟩

/-- The duties on a device's own cells: three on its barrier, one on each send and each receive cell. -/
abbrev Du : Type := Fin 3 ⊕ (Tr ⊕ Tr)
abbrev duCell : Du → Ci
  | .inl _ => .inl ()
  | .inr k => .inr k
abbrev duNo : Du → Fin 3
  | .inl l => l
  | .inr _ => 0
abbrev dutyOf (x : Dev nD × Du) : GSem nD τ sig × ℕ × Fin 3 := (kcell (x.1, duCell x.2), 0, duNo x.2)

theorem dutyOf_inj : Function.Injective dutyOf := by
  rintro ⟨c, k⟩ ⟨c', k'⟩ h
  have h1 := kcell_inj (congrArg Prod.fst h)
  have h2 : duNo k = duNo k' := congrArg (fun x : GSem nD τ sig × ℕ × Fin 3 => x.2.2) h
  have hc : c = c' := congrArg Prod.fst h1
  have hk : duCell k = duCell k' := congrArg Prod.snd h1
  subst hc
  refine congrArg (Prod.mk c) ?_
  rcases k with u | k <;> rcases k' with u' | k'
  · exact congrArg Sum.inl h2
  · cases hk
  · cases hk
  · exact congrArg Sum.inr (Sum.inr.inj hk)

/-- All duties. -/
def allDuties : Finset (GSem nD τ sig × ℕ × Fin 3) := Finset.univ.map ⟨dutyOf, dutyOf_inj⟩

/-- The initial ghost state: the staging pipeline's, and the protocol's. -/
def u₀ : UU :=
  (initOf (Pipeline.cells cfgs cellOf_inj) (Pipeline.launchToks cfgs cellOf_inj), initOf allCells allDuties)

/-! ## What is minted for each device, and what each device is dealt -/

/-- The rights to the duties on device `c`'s own cells. -/
def minted (c : Dev nD) : sProp 𝕄 :=
  iprop((bigSep Finset.univ fun l : Fin 3 => dutyTok ER (barCell c) 0 l)
    ∗ (bigSep Finset.univ fun t : Tr => dutyTok ER (sndCell c t) 0 0) ∗ bigSep Finset.univ fun t : Tr => dutyTok ER (rcvCell c t) 0 0)
/-- The rights to the duties device `c` itself fulfils. -/
def dealt (c : Dev nD) : sProp 𝕄 :=
  iprop((bigSep Finset.univ fun l : Fin 3 => dutyTok ER (barCell (nb l c)) 0 l)
    ∗ (bigSep Finset.univ fun t : Tr => dutyTok ER (sndCell c t) 0 0) ∗ bigSep Finset.univ fun t : Tr => dutyTok ER (rcvCell (nb (lane t) c) t) 0 0)

/-- What the initial ghost state gives device `c`. -/
def G (c : Dev nD) : sProp 𝕄 :=
  iprop((bigSep Finset.univ fun k : Ci => roundState ER (Rd m ρ) (kcell (c, k)) 0)
    ∗ (bigSep Finset.univ fun k : Ci => atPos ER (kcell (c, k)) 0 ∅ 0) ∗ (bigSep Finset.univ fun k : Ci => reached ER (kcell (c, k)) 0) ∗ minted c)

/-- The records without the levels. -/
def cellRecords (K : Dev nD × Ci → ℕ) : sProp 𝕄 :=
  iprop((bigSep Finset.univ fun ck : Dev nD × Ci => cellInv ER (Rd m ρ) (K ck) (kcell ck))
    ∗ bigSep Finset.univ fun ck : Dev nD × Ci => reached ER (kcell ck) 0)
instance cellRecords_persistent (K : Dev nD × Ci → ℕ) : BI.Persistent (cellRecords m ρ K) := by unfold cellRecords; infer_instance

/-- What is device `c`'s alone: the places of its cells, and the rights it was dealt. -/
def alone (c : Dev nD) : sProp 𝕄 := iprop((bigSep Finset.univ fun k : Ci => atPos ER (kcell (c, k)) 0 ∅ 0) ∗ dealt c)

/-- What the semaphores of all devices become for device `c`. -/
def G' (c : Dev nD) : sProp 𝕄 := iprop(∃ K, cellRecords m ρ K ∗ alone c)

omit [FloatOps F] in
/-- Something for each cell of a device, by the kind of cell. -/
theorem each_cell (Φ : Ci → sProp 𝕄) : bigSep Finset.univ Φ
    = iprop(Φ (.inl ()) ∗ (bigSep Finset.univ fun t : Tr => Φ (.inr (.inl t))) ∗ bigSep Finset.univ fun t : Tr => Φ (.inr (.inr t))) := by
  rw [BI.bigSep_univ_sum, BI.bigSep_univ_sum]
  rw [bigSep_univ_eq_bigSepL [()] (by decide) (by decide)]
  rfl

/-- The initial ghost state, dealt to the devices. -/
theorem fund_all : BI.own (ER (initOf allCells allDuties)) ⊢ (|==> bigSep Finset.univ (G m ρ) : sProp 𝕄) := by
  have hC (Φ : GSem nD τ sig → sProp 𝕄) : bigSep allCells Φ = bigSep Finset.univ fun c : Dev nD => bigSep Finset.univ fun k : Ci => Φ (kcell (c, k)) := by
    unfold allCells; rw [bigSep_map, bigSep_univ_prod]; rfl
  have hD : bigSep allDuties (fun x => (dutyTok ER x.1 x.2.1 x.2.2 : sProp 𝕄)) = bigSep Finset.univ fun c : Dev nD => minted c := by
    unfold allDuties; rw [bigSep_map, bigSep_univ_prod]
    refine bigSep_congr fun c _ => ?_
    unfold minted
    rw [BI.bigSep_univ_sum, BI.bigSep_univ_sum]; rfl
  iintro H
  imod (Rounds.fund ER (Rd m ρ) allCells allDuties) $$ H with ⟨H1, H2, H3, H4⟩
  imodintro
  ihave H1 := (Entails.of_eq (hC fun g => roundState ER (Rd m ρ) g 0)) $$ H1
  ihave H3 := (Entails.of_eq (hC fun g => atPos ER g 0 ∅ 0)) $$ H3
  ihave H2 := (Entails.of_eq (hC fun g => reached ER g 0)) $$ H2
  ihave H4 := (Entails.of_eq hD) $$ H4
  unfold G; simp only [bigSep_sep']
  isplitl [H1]; · iexact H1
  isplitl [H3]; · iexact H3
  isplitl [H2] <;> iassumption

/-! ## The semaphores -/

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun t => sndZ c t) ∗ bigSep Finset.univ fun t => rcvZ c t) := by
  unfold Pipeline.ownSems0; rw [BI.bigSep_univ_sum]; rfl
omit [FloatOps F] in
/-- The barrier semaphore is the one that outlives the kernel. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Ci => semVal (kcell (c, k)) 0 : sProp 𝕄) := by
  rw [ownSems_eq, unscopedSems_eq, each_cell]
  iintro ⟨⟨H1, H2⟩, H3⟩
  isplitl [H3]; · iexact H3
  isplitl [H1]; · iexact H1
  iexact H2

/-- A device's semaphores at zero and its cells' initial states become invariants. -/
theorem cells_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : Ci => atPos ER (kcell (c, k)) 0 ∅ 0) ∗ (bigSep Finset.univ fun k : Ci => reached ER (kcell (c, k)) 0) ∗ minted c) := by
  have hI : iprop((bigSep Finset.univ fun k : Ci => semVal (kcell (c, k)) 0) ∗ bigSep Finset.univ fun k : Ci => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨H1, H2, H3, H4, H5, H6⟩
  ihave Hv := (sems_eq (F := F) c) $$ [H1 H2]
  · isplitl [H1] <;> iassumption
  imod hI $$ [Hv H3] with Hi
  · isplitl [Hv] <;> iassumption
  imodintro
  isplitl [Hi]; · iexact Hi
  isplitl [H4]; · iexact H4
  isplitl [H5] <;> iassumption

/-! ## The rights go to the partners -/

omit [FloatOps F] in
/-- Something for each device and index, renamed by the partner along the index's lane. -/
theorem across {J : Type} [Fintype J] (f : J → Fin 3) (Φ : Dev nD → J → sProp 𝕄) :
    (bigSep Finset.univ fun c : Dev nD => bigSep Finset.univ fun j : J => Φ c j)
      = bigSep Finset.univ fun c : Dev nD => bigSep Finset.univ fun j : J => Φ (nb (f j) c) j := by
  let e : Dev nD × J ≃ Dev nD × J := ⟨fun x => (nb (f x.2) x.1, x.2), fun x => (nb (f x.2) x.1, x.2),
    fun x => by simp only [nb_nb], fun x => by simp only [nb_nb]⟩
  rw [← bigSep_univ_prod (fun x : Dev nD × J => Φ x.1 x.2), bigSep_univ_equiv e, bigSep_univ_prod]
  rfl

omit [FloatOps F] in
theorem deal : (bigSep Finset.univ fun c : Dev nD => (minted c : sProp 𝕄)) ⊢ bigSep Finset.univ fun c : Dev nD => dealt c := by
  unfold minted dealt
  rw [bigSep_sep', bigSep_sep', bigSep_sep', bigSep_sep', across (fun l => l) (fun (c : Dev nD) (l : Fin 3) => (dutyTok ER (barCell c) 0 l : sProp 𝕄)),
    across lane (fun (c : Dev nD) (t : Tr) => (dutyTok ER (rcvCell c t) 0 0 : sProp 𝕄))]

omit [FloatOps F] in
/-- What may be copied goes to everyone. -/
theorem hand_out {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem share_all :
    (bigSep Finset.univ fun c : Dev nD => iprop((bigSep Finset.univ fun k => iprop(∃ κ : ℕ, cellInv ER (Rd m ρ) κ (kcell (c, k))))
          ∗ (bigSep Finset.univ fun k : Ci => atPos ER (kcell (c, k)) 0 ∅ 0) ∗ (bigSep Finset.univ fun k : Ci => reached ER (kcell (c, k)) 0) ∗ minted c) : sProp 𝕄)
      ⊢ bigSep Finset.univ (G' m ρ) := by
  have hG (K) (c : Dev nD) : iprop(cellRecords m ρ K ∗ alone c) ⊢ G' m ρ c := by
    unfold G'; iintro H; iexists K; iexact H
  have hA : iprop((bigSep Finset.univ fun c : Dev nD => bigSep Finset.univ fun k : Ci => (atPos ER (kcell (c, k)) 0 ∅ 0 : sProp 𝕄)) ∗ bigSep Finset.univ fun c : Dev nD => dealt c)
      ⊢ bigSep Finset.univ fun c : Dev nD => alone c := by
    rw [← bigSep_sep']; exact bigSep_mono fun c _ => BI.Entails.refl _
  rw [bigSep_sep', bigSep_sep', bigSep_sep', ← bigSep_univ_prod (fun ck : Dev nD × Ci => iprop(∃ κ : ℕ, cellInv ER (Rd m ρ) κ (kcell ck))),
    ← bigSep_univ_prod (fun ck : Dev nD × Ci => (reached ER (kcell ck) 0 : sProp 𝕄))]
  iintro ⟨H1, H2, #H3, H4⟩
  ihave HK := (BI.bigSep_exists_pi Finset.univ (fun (ck : Dev nD × Ci) (κ : ℕ) => (cellInv ER (Rd m ρ) κ (kcell ck) : sProp 𝕄))) $$ H1
  icases HK with ⟨%K, #HI⟩
  ihave H4 := (deal (F := F)) $$ H4
  iapply (hand_out (R := cellRecords m ρ K) (hG K))
  isplitr
  · unfold cellRecords; isplitl; · iexact HI
    iexact H3
  · iapply hA
    isplitl [H2] <;> iassumption

/-- The step that all devices' semaphores take at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_open m ρ c).trans (bigSep_fupd _ _)).trans (BI.fupd_mono (share_all m ρ))

end Cert.CubeSum

end
-- ==== Proof.Run.lean ====
/-
The credits at launch: what the devices owe a cell together is what its owner waits for. Then the run of the program on all
devices, from any memory.
-/
module

public import proofs.«01_k».proof.Proof.Launch
public import Idealize.ShloMosaic.Lib.Pipeline.CollectiveSegs

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes a cell -/

theorem barCell_eq {a b : Dev nD} : barCell a = barCell b ↔ a = b :=
  ⟨fun h => congrArg (fun g : GSem nD τ sig => g.1.1) h, fun h => h ▸ rfl⟩
theorem rcvCell_eq {a b : Dev nD} {t u : Tr} : rcvCell a t = rcvCell b u ↔ a = b ∧ t = u := by
  constructor
  · intro h
    have h' := kcell_inj (a₁ := (a, .inr (.inr t))) (a₂ := (b, .inr (.inr u))) h
    exact ⟨congrArg Prod.fst h', Sum.inr.inj (Sum.inr.inj (congrArg Prod.snd h'))⟩
  · rintro ⟨rfl, rfl⟩; rfl
theorem barCell_ne {a b : Dev nD} {t : Tr} : barCell a ≠ rcvCell b t := fun h => by
  have h' := congrArg Prod.snd h
  cases h'

/-- The dues owed to a cell, added up. -/
theorem dues_at (d : Dev nD) (ds : List Due) (g : GSem nD τ sig) : dues d ds g () = (ds.map fun x => if g = dueCell d x then dueAmt x else 0).sum := by
  induction ds with
  | nil => rfl
  | cons x ds ih =>
    unfold dues
    rw [Pi.add_apply, Finsupp.add_apply, tallyAt_apply, ih, List.map_cons, List.sum_cons, Nat.add_comm]
    simp

theorem allDues_nodup : allDues.Nodup := by decide
theorem allDues_all : allDues.toFinset = Finset.univ := by decide

/-- At launch every due is owed once. -/
theorem owed_at (d : Dev nD) (g : GSem nD τ sig) : O₀ d g ()
    = (∑ l : Fin 3, if g = barCell (nb l d) then 1 else 0) + ∑ t : Tr, if g = rcvCell (nb (lane t) d) t then N t else 0 := by
  unfold O₀
  rw [dues_at, ← List.sum_toFinset _ allDues_nodup, allDues_all, Fintype.sum_sum_type]
  rfl

theorem nb_swap {l : Fin 3} {c d : Dev nD} : c = nb l d ↔ d = nb l c :=
  ⟨fun h => by rw [h, nb_nb], fun h => by rw [h, nb_nb]⟩

/-- Each barrier is owed a unit along each lane; -/
theorem credit_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  have h (d : Dev nD) : O₀ d (barCell c) () = ∑ l : Fin 3, if d = nb l c then 1 else 0 := by
    rw [owed_at, Finset.sum_eq_zero (s := (Finset.univ : Finset Tr)) (fun t _ => if_neg barCell_ne), Nat.add_zero]
    exact Finset.sum_congr rfl fun l _ => by simp only [barCell_eq, nb_swap]
  rw [Pipeline.launchCredit_owing, Finsupp.single_eq_same, Finset.sum_congr rfl fun d _ => h d, Finset.sum_comm,
    Finset.sum_congr rfl fun l _ => (Finset.sum_ite_eq' Finset.univ (nb l c) fun _ => 1).trans (if_pos (Finset.mem_univ _))]
  rfl

/-- each receive cell is owed its transfer's credit. -/
theorem credit_rcv (c : Dev nD) (t : Tr) :
    tallyOn (rcvCell c t) (launchCredit (Pipeline.owing O₀) 0 (rcvCell c t)) = (tallyAt (rcvCell c t) () (N t) : CellTallies nD τ sig Unit) := by
  unfold tallyAt
  refine congrArg _ (Finsupp.ext fun u => ?_)
  cases u
  have h (d : Dev nD) : O₀ d (rcvCell c t) () = if d = nb (lane t) c then N t else 0 := by
    rw [owed_at, Finset.sum_eq_zero (s := (Finset.univ : Finset (Fin 3))) (fun l _ => if_neg barCell_ne.symm), Nat.zero_add]
    rw [Finset.sum_eq_single t (fun u _ hu => if_neg fun h => hu (rcvCell_eq.mp h).2.symm) (fun h => absurd (Finset.mem_univ t) h)]
    simp only [rcvCell_eq, and_true, nb_swap]
  rw [Pipeline.launchCredit_owing, Finsupp.single_eq_same, Finset.sum_congr rfl fun d _ => h d,
    Finset.sum_ite_eq' Finset.univ (nb (lane t) c) fun _ => N t, if_pos (Finset.mem_univ _)]

theorem rcvLoc_inj : Function.Injective fun t : Tr => (SemLoc.dma (rcvS t) : SemLoc sig) :=
  fun a b h => Sum.inr.inj (osem_inj (a₁ := .inr a) (a₂ := .inr b) h)

omit [FloatOps F] in
/-- The credits a device finds at launch. -/
theorem creds (c : Dev nD) :
    (Pipeline.launchCred O₀ c : sProp 𝕄) ⊢ iprop(cred (tallyAt (barCell c) () 3) ∗ bigSep Finset.univ fun t : Tr => cred (tallyAt (rcvCell c t) () (N t))) := by
  have h : (bigSep Finset.univ fun t : Tr => (cred (tallyAt (rcvCell c t) () (N t)) : sProp 𝕄))
      = bigSep (Finset.univ.map ⟨fun t : Tr => (SemLoc.dma (rcvS t) : SemLoc sig), rcvLoc_inj⟩)
          fun sm => cred (tallyOn ((c.tc : Thread nD τ), sm) (launchCredit (Pipeline.owing O₀) 0 ((c.tc : Thread nD τ), sm))) := by
    rw [bigSep_map]; exact bigSep_congr fun t _ => congrArg cred (credit_rcv c t).symm
  unfold Pipeline.launchCred
  rw [bigSep_univ_at _ (SemLoc.reg barS), credit_bar, h]
  refine sep_mono_right (bigSep_subset fun sm hsm => ?_)
  refine Finset.mem_erase.mpr ⟨?_, Finset.mem_univ _⟩
  rintro rfl
  obtain ⟨t, -, ht⟩ := Finset.mem_map.mp hsm
  cases ht

/-! ## The side conditions of the launch -/

omit [FloatOps F] in
/-- Places, rights and credits make a device's kit. -/
theorem kit_made (c : Dev nD) :
    iprop(alone c ∗ cred (tallyAt (barCell c) () 3) ∗ bigSep Finset.univ fun t : Tr => cred (tallyAt (rcvCell c t) () (N t))) ⊢ (kit c : sProp 𝕄) := by
  unfold alone kit dealt ship inbound
  rw [each_cell, bigSep_sep', bigSep_sep', bigSep_sep',
    show (bigSep Finset.univ fun l : Fin 3 => (dutyTok ER (barCell (nb l c)) 0 l : sProp 𝕄))
        = iprop(dutyTok ER (barCell (nb 0 c)) 0 0 ∗ dutyTok ER (barCell (nb 1 c)) 0 1 ∗ dutyTok ER (barCell (nb 2 c)) 0 2) from
      bigSep_univ_eq_bigSepL ([0, 1, 2] : List (Fin 3)) (by decide) (by decide) _]
  iintro ⟨⟨⟨A1, A2, A3⟩, ⟨D1, D2, D3⟩⟩, C1, C2⟩
  isplitl [D1]; · iexact D1
  isplitl [C1 A1]
  · isplitl [C1] <;> iassumption
  isplitl [D2 D3 A2]
  · isplitl [D2]; · iexact D2
    isplitl [D3]; · iexact D3
    iexact A2
  isplitl [C2] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, #HL, HC, -, ⟨%K, #HK, HA⟩⟩
  ihave HC := (creds (F := F) c) $$ HC
  imodintro
  isplitl
  · isplitr
    · iexists K
      unfold cellRecords records
      icases HK with ⟨#H1, #H2⟩
      isplitr; · iexact H1
      isplitr; · iexact H2
      iexact HL
    iapply (kit_made (F := F) c)
    isplitl [HA] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before bPts
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after m ρ c from rfl, scopedRest0_eq, ownSems_eq, unscopedSems_eq]
  unfold after spent bPts
  iintro ⟨Hb, H1, H2, H3⟩
  isplitl [H1]; · iexact H1
  isplitl [H2 H3]
  · isplitl [H2] <;> iassumption
  iexists (got m ρ c); iexact Hb

theorem share_full (c : Dev nD) (w : Fin cfg0.W) : (dats m ρ 0 c).share w = fullShare := by unfold Dat.share; split <;> rfl

theorem stage_level : ∀ (w : Fin cfg0.W) (s : Fin (cfg0.win w).nbuf), lvS (.dma ((cfg0.win w).sem s)) = 0 := by decide +kernel

/-- The waits of the staging pipeline lie below everything owed. -/
theorem waits (c : Dev nD) : (levAts L lv : sProp 𝕄) ⊢ Pipeline.cellsWaits cfgs (dats m ρ) () 0 c :=
  Pipeline.cellsWaits_intro cfgs (dats m ρ) () 0 c fun w s t => by
    have h0 := stage_level w s
    rcases t with ⟨_ | _, ht⟩
    · exact mayWait_dues c _ allDues (fun d hd => by rw [h0]; revert d; decide)
    · exact mayWait_dues c _ [] (fun d hd => absurd hd List.not_mem_nil)

/-! ## The run -/

def finalA (c : Dev nD) (w : Fin cfg0.W) : Buf (Elt F) ((cfg0.win w).arr.view.loc (c : Thread nD τ)) := (dats m ρ 0 c).arrAt w cfg0.N

/-- The two arrays of every device at the end. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with its counters at zero, the program on all 32 devices comes to an end however
    the devices' steps are interleaved, with the two arrays as stated and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` ends as it began. -/
theorem final_x (c : Dev nD) : finalA m ρ c (0 : Fin 2) = (s₀ m ρ).mem (win0_0.arr.view.loc (c : Thread nD τ)) :=
  (dats (F := F) m ρ 0 c).arrAt_in (0 : Fin 2) rfl _

end Cert.CubeSum

end
-- ==== Proof.Value.lean ====
/-
What the result array of a device holds after the run: the sum of the two blocks of `x`, its own and the other one.
-/
module

public import proofs.«01_k».proof.Proof.Run
public import Idealize.ShloMosaic.Lib.Pipeline.Value
public import Idealize.ShloMosaic.Lib.Layout
public import Idealize.ShloMosaic.PureOps.Ideal.Laws

@[expose] public section

noncomputable section

namespace Cert.CubeSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays are read and written whole -/

omit [FloatOps F] in
theorem read_x (f : main_arg0.ty.Contents (Elt F)) : (win0_0.blk (0 : Fin 1)).view.read (Elt F) f = f :=
  Memref.read_access_unit_zero (Elt F) main_arg0 (funext fun a => by fin_cases a <;> rfl) (fun a => by fin_cases a <;> decide) f

omit [FloatOps F] in
theorem read_o (f : main_v1.ty.Contents (Elt F)) : (win0_1.blk (0 : Fin 1)).view.read (Elt F) f = f :=
  Memref.read_access_unit_zero (Elt F) main_v1 (funext fun a => by fin_cases a <;> rfl) (fun a => by fin_cases a <;> decide) f

/-- A device's staging buffer holds its array. -/
theorem xstg_eq (c : Dev nD) : xstg m ρ c = m ((c : Thread nD τ).loc main_arg0) := read_x _

/-- The result array ends as the sum. -/
theorem final_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (read_o _).symm.trans h

/-! ## The two halves -/

/-- Rows `8192 s` to `8192 s + 8191` of the whole of `x`. -/
def half {α : Type} (v : (⟨2, ![16384, 1024]⟩ : Shape).Idx → α) (s : Fin 2) : S8192x1024.Idx → α := fun i =>
  v fun a => match a with
    | ⟨0, _⟩ => ⟨s.val * 8192 + (i 0).val, by have h : (i 0).val < 8192 := (i 0).isLt; have := s.isLt; show _ < 16384; omega⟩
    | ⟨1, _⟩ => ⟨(i 1).val, (i 1).isLt⟩

/-- The coordinate of a device along the `x` axis. -/
def side (c : Dev nD) : Fin 2 := ⟨c.val / 16, by have : c.val < 32 := c.isLt; omega⟩

theorem mesh_row : ∀ c : Dev nD, (Layout.meshBlock [2, 4, 4] ![[0], []] c (by decide) (0 : Fin 2)).val = c.val / 16 := by decide
theorem mesh_col : ∀ c : Dev nD, (Layout.meshBlock [2, 4, 4] ![[0], []] c (by decide) (1 : Fin 2)).val = 0 := by decide

/-- A device's block of `x` is the half its coordinate along `x` names. -/
theorem block_half {α : Type} (c : Dev nD) (v : (⟨2, ![16384, 1024]⟩ : Shape).Idx → α) :
    Layout.blockN ⟨2, ![8192, 1024]⟩ ⟨2, ![16384, 1024]⟩ (Layout.meshBlock [2, 4, 4] ![[0], []] c) v = half v (side c) := by
  funext i
  rw [Layout.blockN_apply]
  unfold half
  refine congrArg v (funext fun a => Fin.ext ?_)
  match a with
  | ⟨0, _⟩ =>
    show (Layout.meshBlock [2, 4, 4] ![[0], []] c (by decide) (0 : Fin 2)).val * 8192 + (i 0).val = (side c).val * 8192 + (i 0).val
    rw [mesh_row]; rfl
  | ⟨1, _⟩ =>
    show (Layout.meshBlock [2, 4, 4] ![[0], []] c (by decide) (1 : Fin 2)).val * 1024 + (i 1).val = (i 1).val
    rw [mesh_col, Nat.zero_mul, Nat.zero_add]

/-- The sum of the two halves. -/
def both (v : (⟨2, ![16384, 1024]⟩ : Shape).Idx → EReal) : S8192x1024.Idx → EReal := fun i => half v 0 i + half v 1 i

/-- From arrays that hold their halves, every device ends with the sum of the two. -/
theorem out_both (m : (ℓ : Loc nD τ sig) → Buf (Elt Ideal) ℓ) (v : (⟨2, ![16384, 1024]⟩ : Shape).Idx → EReal)
    (h : ∀ c : Dev nD, m ((c : Thread nD τ).loc main_arg0) = half v (side c)) (c : Dev nD) : outAt m ρ c = both v := by
  funext i
  have hi : (i 0).val < 8192 := (i 0).isLt
  have ho := org_side c ⟨(i 0).val / 16, by omega⟩
  have hc : c.val < 32 := c.isLt
  have e1 : xstg m ρ c i = half v (side c) i := by rw [xstg_eq, h]
  have e2 : got m ρ c i = half v (side (org c ((i 0).val / 16))) i := by unfold got; rw [xstg_eq, h]
  show ((show EReal from xstg m ρ c i) + (show EReal from got m ρ c i) : EReal) = _
  rw [e1, e2]
  unfold both
  by_cases hs : c.val / 16 = 0
  · rw [show side c = 0 from Fin.ext hs, show side (org c ((i 0).val / 16)) = 1 from Fin.ext (ho.trans (by rw [hs]; rfl))]
  · have hs : c.val / 16 = 1 := by omega
    rw [show side c = 1 from Fin.ext hs, show side (org c ((i 0).val / 16)) = 0 from Fin.ext (ho.trans (by rw [hs]; rfl)), add_comm]

end Cert.CubeSum

end
-- ==== Proof.Reference.lean ====
/-
What the reference computes: the sum of the two halves of `x`.
-/
module

public import proofs.«01_k».proof.Proof.Gen.ReferenceIdeal.Run
public import proofs.«01_k».proof.Proof.Value
public import Idealize.ShloMosaic.Lib.IdealHost

@[expose] public section

noncomputable section

namespace Cert.CubeSum

open Cert.ReferenceIdeal Cert.ReferenceIdeal.Gen
open Idealize.ShloMosaic
open Idealize.ShloMosaic.TcCoe
open Idealize.SL.Sem

theorem reduces_first : S2x8192x1024.Reduces [0] S8192x1024 := by decide

/-- Half `k` of `x`, as the reference's reshape shows it. -/
theorem reshaped (v : S16384x1024.Idx → EReal) (j : S8192x1024.Idx) (k : Fin 2) :
    shapeCast S2x8192x1024 v shapeCasts_S16384x1024_S2x8192x1024 (reduces_first.lift j k) = half v k j := by
  unfold half
  refine shapeCast_apply _ _ _ _ ?_
  rw [Shape.rowMajor_val_two, Shape.rowMajor_val_three]
  show (k.val * 8192 + (j 0).val) * 1024 + (j 1).val = (k.val * 8192 + (j 0).val) * 1024 + (j 1).val
  rfl

/-- The reference's result. -/
theorem ref_both (v : S16384x1024.Idx → EReal) :
    (truncf .bf16 (Host.reduceAdd (F := Ideal) (extf .f32 (shapeCast S2x8192x1024 v shapeCasts_S16384x1024_S2x8192x1024 : FVec Ideal S2x8192x1024 .bf16) bitsLt_bf16_f32)
      (constant S_ .f32 0x00000000#32) reducesTo_S2x8192x1024_S8192x1024_d0 h_S_) bitsLt_bf16_f32 : FVec Ideal S8192x1024 .bf16) = both v := by
  funext j
  show Ideal.hostReduceAdd reducesTo_S2x8192x1024_S8192x1024_d0 (shapeCast S2x8192x1024 v shapeCasts_S16384x1024_S2x8192x1024)
    (Ideal.ofBits .f32 0x00000000#32) j = _
  rw [Ideal.hostReduceAdd_single _ reduces_first, Ideal.ofBits_zero_f32, zero_add]
  show (∑ k : Fin 2, shapeCast S2x8192x1024 v shapeCasts_S16384x1024_S2x8192x1024 (reduces_first.lift j k)) = half v 0 j + half v 1 j
  rw [Fin.sum_univ_two, reshaped, reshaped]

end Cert.CubeSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem
open Idealize.ShloMosaic.TcCoe
open Cert.CubeSum

/-- The run, for any float values: `x` ends as it began, and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (final_x m ρ c), h.2⟩) (run_main m ρ)

section
attribute [local instance] Cert.Kernel.Gen.facts Cert.KernelIdeal.Gen.facts

/-- The kernel and its idealization have the same body; -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

/-- and so the same programs. -/
theorem defs_same {F : FTy → Type} [FloatOps F] : Cert.Kernel.defs (F := F) = Cert.KernelIdeal.defs (F := F) :=
  congrArg (Pipeline.defs Cert.KernelIdeal.pcfgs) bodies_same

end

/-- The frame of the kernel. Its text is that of the idealization, so the one run serves both. -/
theorem frame_kernel : Cert.quiescent_Kernel := by
  intro m ρ _
  rw [defs_same]
  exact frame_any (F := Bits) m ρ

/-- The frame of the idealization. -/
theorem frame_ideal : Cert.quiescent_KernelIdeal := fun m ρ _ => frame_any (F := Ideal) m ρ

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: every device's result is the sum of the two halves of `x`, and so is the reference's. -/
theorem value : Cert.algebraic_KernelIdeal_ReferenceIdeal := by
  intro m ρ m' ρ' _ hagree
  refine ⟨both (m' (((0 : Dev Cert.ReferenceIdeal.nD).tc : Thread _ Cert.ReferenceIdeal.τ).loc Cert.ReferenceIdeal.main_arg0)), ?_, ?_⟩
  · exact (θ_run Cert.KernelIdeal.defs _ _).mono
      (fun _ h c => ⟨(h.1 c (1 : Fin 2)).trans ((final_o m ρ c).trans (out_both ρ m _ (fun d => (hagree d).trans (block_half d _)) c)),
        (h.1 c (0 : Fin 2)).trans (final_x m ρ c)⟩)
      (run_main (F := Ideal) m ρ)
  · exact (θ_run Cert.ReferenceIdeal.defs _ _).mono (fun _ h => ⟨(h 0).1.trans (ref_both _), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
